-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_on_whole_chunks [hKernelIdeal : Cert.KernelIdeal.Facts] [hReferenceIdeal : Cert.ReferenceIdeal.Facts] [hPre_in_range : Cert.Pre_in_range.Facts] [hOn_whole_chunks : Cert.On_whole_chunks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6, 12288]⟩ : Shape).Idx, (Cert.On_whole_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v6) i = v0 c i)
          ∧ (∀ i : (⟨2, ![6, 12288]⟩ : Shape).Idx, (Cert.On_whole_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v7) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6, 12288]⟩ : Shape).Idx, (Cert.On_whole_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v36) i = v0 c i)
          ∧ (∀ i : (⟨2, ![6, 12288]⟩ : Shape).Idx, (Cert.On_whole_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v40) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts) (hOn_whole_chunks : Cert.On_whole_chunks.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_in_range (hReferenceIdeal := hReferenceIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ReferenceIdeal_on_whole_chunks (hKernelIdeal := hKernelIdeal) (hReferenceIdeal := hReferenceIdeal) (hPre_in_range := hPre_in_range) (hOn_whole_chunks := hOn_whole_chunks)
-- ==== On_whole_chunks.lean ====
abbrev S6x12288x16 : Shape := ⟨3, ![6, 12288, 16]⟩
abbrev S6x12288 : Shape := ⟨2, ![6, 12288]⟩
abbrev S8192x16 : Shape := ⟨2, ![8192, 16]⟩
abbrev S8192 : Shape := ⟨1, ![8192]⟩
abbrev S6 : Shape := ⟨1, ![6]⟩
abbrev S_ : Shape := ⟨0, ![]⟩
abbrev S6x1 : Shape := ⟨2, ![6, 1]⟩

class Facts : Prop where
  bcast_S_S6 : S_.BroadcastsInDim S6 (![] : Fin 0 → Fin S6.rank)
  bcast_S6_S6x1_0 : S6.BroadcastsInDim S6x1 (![0] : Fin 1 → Fin S6x1.rank)
  bcast_S6x1_S6x12288_0_1 : S6x1.BroadcastsInDim S6x12288 (![0, 1] : Fin 2 → Fin S6x12288.rank)

variable [Facts]

def fn {F : FTy → Type} [FloatOps F] (main_arg0 : FVec F S6x12288x16 .f32) (main_arg1 : FVec F S6x12288 .f32) (main_arg2 : FVec F S8192x16 .f32) (main_arg3 : FVec F S8192 .f32) (main_arg4 : IVec S6 32) : IVec S6x12288 1 × IVec S6x12288 1 :=
  let main_c : IVec S_ 32 := constantI S_ 32 127#32
  let main_v0 : IVec S6 32 := broadcastInDim S6 ![] bcast_S_S6 main_c
  let main_v1 : IVec S6 32 := andi main_arg4 main_v0
  let main_c_0 : IVec S_ 32 := constantI S_ 32 0#32
  let main_v2 : IVec S6 32 := broadcastInDim S6 ![] bcast_S_S6 main_c_0
  let main_v3 : IVec S6 1 := cmpi .eq main_v1 main_v2
  let main_v4 : IVec S6x1 1 := broadcastInDim S6x1 ![0] bcast_S6_S6x1_0 main_v3
  let main_v5 : IVec S6x12288 1 := broadcastInDim S6x12288 ![0, 1] bcast_S6x1_S6x12288_0_1 main_v4
  (main_v5, main_v5)
-- ==== Pre_finite.lean ====
abbrev S6x12288x16 : Shape := ⟨3, ![6, 12288, 16]⟩
abbrev S6x12288 : Shape := ⟨2, ![6, 12288]⟩
abbrev S8192x16 : Shape := ⟨2, ![8192, 16]⟩
abbrev S8192 : Shape := ⟨1, ![8192]⟩
abbrev S6 : Shape := ⟨1, ![6]⟩
abbrev S_ : Shape := ⟨0, ![]⟩

class Facts : Prop where
  bcast_S_S6 : S_.BroadcastsInDim S6 (![] : Fin 0 → Fin S6.rank)
  bcast_S_S6x12288x16 : S_.BroadcastsInDim S6x12288x16 (![] : Fin 0 → Fin S6x12288x16.rank)
  bcast_S_S6x12288 : S_.BroadcastsInDim S6x12288 (![] : Fin 0 → Fin S6x12288.rank)
  bcast_S_S8192x16 : S_.BroadcastsInDim S8192x16 (![] : Fin 0 → Fin S8192x16.rank)
  bcast_S_S8192 : S_.BroadcastsInDim S8192 (![] : Fin 0 → Fin S8192.rank)

variable [Facts]

def fn {F : FTy → Type} [FloatOps F] (main_arg0 : FVec F S6x12288x16 .f32) (main_arg1 : FVec F S6x12288 .f32) (main_arg2 : FVec F S8192x16 .f32) (main_arg3 : FVec F S8192 .f32) (main_arg4 : IVec S6 32) : IVec S6 1 × IVec S6x12288x16 1 × IVec S6x12288 1 × IVec S8192x16 1 × IVec S8192 1 :=
  let main_c : IVec S_ 32 := constantI S_ 32 8192#32
  let main_v0 : IVec S6 32 := broadcastInDim S6 ![] bcast_S_S6 main_c
  let main_v1 : IVec S6 1 := cmpi .sle main_arg4 main_v0
  let main_v2 : FVec F S6x12288x16 .f32 := Host.absf main_arg0
  let main_cst : FVec F S_ .f32 := constant S_ .f32 0x7F800000#32
  let main_v3 : FVec F S6x12288x16 .f32 := broadcastInDim S6x12288x16 ![] bcast_S_S6x12288x16 main_cst
  let main_v4 : IVec S6x12288x16 1 := cmpf .olt main_v2 main_v3
  let main_v5 : FVec F S6x12288 .f32 := Host.absf main_arg1
  let main_cst_0 : FVec F S_ .f32 := constant S_ .f32 0x7F800000#32
  let main_v6 : FVec F S6x12288 .f32 := broadcastInDim S6x12288 ![] bcast_S_S6x12288 main_cst_0
  let main_v7 : IVec S6x12288 1 := cmpf .olt main_v5 main_v6
  let main_v8 : FVec F S8192x16 .f32 := Host.absf main_arg2
  let main_cst_1 : FVec F S_ .f32 := constant S_ .f32 0x7F800000#32
  let main_v9 : FVec F S8192x16 .f32 := broadcastInDim S8192x16 ![] bcast_S_S8192x16 main_cst_1
  let main_v10 : IVec S8192x16 1 := cmpf .olt main_v8 main_v9
  let main_v11 : FVec F S8192 .f32 := Host.absf main_arg3
  let main_cst_2 : FVec F S_ .f32 := constant S_ .f32 0x7F800000#32
  let main_v12 : FVec F S8192 .f32 := broadcastInDim S8192 ![] bcast_S_S8192 main_cst_2
  let main_v13 : IVec S8192 1 := cmpf .olt main_v11 main_v12
  (main_v1, main_v4, main_v7, main_v10, main_v13)
-- ==== Pre_in_range.lean ====
abbrev S6x12288x16 : Shape := ⟨3, ![6, 12288, 16]⟩
abbrev S6x12288 : Shape := ⟨2, ![6, 12288]⟩
abbrev S8192x16 : Shape := ⟨2, ![8192, 16]⟩
abbrev S8192 : Shape := ⟨1, ![8192]⟩
abbrev S6 : Shape := ⟨1, ![6]⟩
abbrev S_ : Shape := ⟨0, ![]⟩

class Facts : Prop where
  bcast_S_S6 : S_.BroadcastsInDim S6 (![] : Fin 0 → Fin S6.rank)

variable [Facts]

def fn {F : FTy → Type} [FloatOps F] (main_arg0 : FVec F S6x12288x16 .f32) (main_arg1 : FVec F S6x12288 .f32) (main_arg2 : FVec F S8192x16 .f32) (main_arg3 : FVec F S8192 .f32) (main_arg4 : IVec S6 32) : IVec S6 1 :=
  let main_c : IVec S_ 32 := constantI S_ 32 8192#32
  let main_v0 : IVec S6 32 := broadcastInDim S6 ![] bcast_S_S6 main_c
  let main_v1 : IVec S6 1 := cmpi .sle main_arg4 main_v0
  main_v1
-- ==== Kernel.lean ====
abbrev S6x12288x16 : Shape := ⟨3, ![6, 12288, 16]⟩
abbrev S6x12288 : Shape := ⟨2, ![6, 12288]⟩
abbrev S8192x16 : Shape := ⟨2, ![8192, 16]⟩
abbrev S8192 : Shape := ⟨1, ![8192]⟩
abbrev S6 : Shape := ⟨1, ![6]⟩
abbrev S6x16x12288 : Shape := ⟨3, ![6, 16, 12288]⟩
abbrev S6x24x1x512 : Shape := ⟨4, ![6, 24, 1, 512]⟩
abbrev S8192x1 : Shape := ⟨2, ![8192, 1]⟩
abbrev S1x16x512 : Shape := ⟨3, ![1, 16, 512]⟩
abbrev S1x1x1x512 : Shape := ⟨4, ![1, 1, 1, 512]⟩
abbrev S1 : Shape := ⟨1, ![1]⟩
abbrev S16x512 : Shape := ⟨2, ![16, 512]⟩
abbrev S1x512 : Shape := ⟨2, ![1, 512]⟩
abbrev S512 : Shape := ⟨1, ![512]⟩
abbrev S8x512 : Shape := ⟨2, ![8, 512]⟩
abbrev S128x16 : Shape := ⟨2, ![128, 16]⟩
abbrev S128x512 : Shape := ⟨2, ![128, 512]⟩
abbrev S128x1 : Shape := ⟨2, ![128, 1]⟩
abbrev S16x8x512 : Shape := ⟨3, ![16, 8, 512]⟩
abbrev S1x8x512 : Shape := ⟨3, ![1, 8, 512]⟩
abbrev S4x512 : Shape := ⟨2, ![4, 512]⟩
abbrev S2x512 : Shape := ⟨2, ![2, 512]⟩

abbrev nBuf : Space → Nat
  | .hbm => 13
  | .vmem => 11
  | .smem => 1
  | _ => 0

abbrev bufTy : (tb : Table) → Fin (tcTables nBuf tb) → BufTy
  | .hbm, ⟨0, _⟩ => ⟨S6x12288x16, .f32⟩
  | .hbm, ⟨1, _⟩ => ⟨S6x12288, .f32⟩
  | .hbm, ⟨2, _⟩ => ⟨S8192x16, .f32⟩
  | .hbm, ⟨3, _⟩ => ⟨S8192, .f32⟩
  | .hbm, ⟨4, _⟩ => ⟨S6x12288x16, .fp8e4m3⟩
  | .hbm, ⟨5, _⟩ => ⟨S8192x16, .fp8e4m3⟩
  | .hbm, ⟨6, _⟩ => ⟨S6x16x12288, .fp8e4m3⟩
  | .hbm, ⟨7, _⟩ => ⟨S6x24x1x512, .f32⟩
  | .hbm, ⟨8, _⟩ => ⟨S8192x1, .f32⟩
  | .hbm, ⟨9, _⟩ => ⟨S6x24x1x512, .f32⟩
  | .hbm, ⟨10, _⟩ => ⟨S6x24x1x512, .f32⟩
  | .hbm, ⟨11, _⟩ => ⟨S6x12288, .f32⟩
  | .hbm, ⟨12, _⟩ => ⟨S6x12288, .f32⟩
  | .local _ .vmem, ⟨0, _⟩ => ⟨S1x16x512, .fp8e4m3⟩
  | .local _ .vmem, ⟨1, _⟩ => ⟨S1x16x512, .fp8e4m3⟩
  | .local _ .vmem, ⟨2, _⟩ => ⟨S1x1x1x512, .f32⟩
  | .local _ .vmem, ⟨3, _⟩ => ⟨S1x1x1x512, .f32⟩
  | .local _ .vmem, ⟨4, _⟩ => ⟨S8192x16, .fp8e4m3⟩
  | .local _ .vmem, ⟨5, _⟩ => ⟨S8192x1, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S8192x1, .f32⟩
  | .local _ .smem, ⟨0, _⟩ => ⟨S6, .i32⟩
  | _, _ => ⟨S6x12288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![6, 24], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
@[reducible] def k0_t1_loop (v6 : BitVec 32) : Scf.Loop 32 :=
  let c0_i32_10 : BitVec 32 := 0#32
  let c127_i32 : BitVec 32 := 127#32
  let v20 : BitVec 32 := Scalar.addi v6 c127_i32
  let c128_i32 : BitVec 32 := 128#32
  let v21 : BitVec 32 := Scalar.divsi v20 c128_i32
  let v22 : BitVec 32 := Scalar.subi v21 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_11 : BitVec 32 := 1#32
  ⟨c0_i32_10, v26, c1_i32_11⟩

def k0_mult1 (v6 : BitVec 32) (k0_t1 : Fin (k0_t1_loop v6).trips) : BitVec 32 :=
  let c0_i32_10 : BitVec 32 := 0#32
  let c1_i32_11 : BitVec 32 := 1#32
  let arg10 : BitVec 32 := Scf.iv c0_i32_10 c1_i32_11 k0_t1
  let c128_i32_21 : BitVec 32 := 128#32
  let v60 : BitVec 32 := Scalar.muli arg10 c128_i32_21
  v60
def k0_off2 (v6 : BitVec 32) (k0_t1 : Fin (k0_t1_loop v6).trips) : Fin 2 → Nat :=
  let c0_i32_10 : BitVec 32 := 0#32
  let c1_i32_11 : BitVec 32 := 1#32
  let arg10 : BitVec 32 := Scf.iv c0_i32_10 c1_i32_11 k0_t1
  let c128_i32_21 : BitVec 32 := 128#32
  let v60 : BitVec 32 := Scalar.muli arg10 c128_i32_21
  let v61 : BitVec 32 := v60
  let v62 : Index := Scalar.indexCast v61
  let c0_22 : Index := 0#32
  ![v62.toNat, 0]
def k0_off3 (v6 : BitVec 32) (k0_t1 : Fin (k0_t1_loop v6).trips) : Fin 2 → Nat :=
  let c0_i32_10 : BitVec 32 := 0#32
  let c1_i32_11 : BitVec 32 := 1#32
  let arg10 : BitVec 32 := Scf.iv c0_i32_10 c1_i32_11 k0_t1
  let c128_i32_21 : BitVec 32 := 128#32
  let v60 : BitVec 32 := Scalar.muli arg10 c128_i32_21
  let v61 : BitVec 32 := v60
  let v66 : Index := Scalar.indexCast v61
  let c0_24 : Index := 0#32
  ![v66.toNat, 0]
@[reducible] def k0_t2_loop (v6 : BitVec 32) : Scf.Loop 32 :=
  let c0_i32_10 : BitVec 32 := 0#32
  let c127_i32 : BitVec 32 := 127#32
  let v20 : BitVec 32 := Scalar.addi v6 c127_i32
  let c128_i32 : BitVec 32 := 128#32
  let v21 : BitVec 32 := Scalar.divsi v20 c128_i32
  let v22 : BitVec 32 := Scalar.subi v21 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let v23 : BitVec 32 := Scalar.addi c0_i32_10 v22
  let c1_i32_12 : BitVec 32 := 1#32
  ⟨v26, v23, c1_i32_12⟩
def k0_mult2 (v6 : BitVec 32) (k0_t2 : Fin (k0_t2_loop v6).trips) : BitVec 32 :=
  let c0_i32_10 : BitVec 32 := 0#32
  let c127_i32 : BitVec 32 := 127#32
  let v20 : BitVec 32 := Scalar.addi v6 c127_i32
  let c128_i32 : BitVec 32 := 128#32
  let v21 : BitVec 32 := Scalar.divsi v20 c128_i32
  let v22 : BitVec 32 := Scalar.subi v21 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg10 : BitVec 32 := Scf.iv v26 c1_i32_12 k0_t2
  let c128_i32_21 : BitVec 32 := 128#32
  let v60 : BitVec 32 := Scalar.muli arg10 c128_i32_21
  v60
def k0_off4 (v6 : BitVec 32) (k0_t2 : Fin (k0_t2_loop v6).trips) : Fin 2 → Nat :=
  let c0_i32_10 : BitVec 32 := 0#32
  let c127_i32 : BitVec 32 := 127#32
  let v20 : BitVec 32 := Scalar.addi v6 c127_i32
  let c128_i32 : BitVec 32 := 128#32
  let v21 : BitVec 32 := Scalar.divsi v20 c128_i32
  let v22 : BitVec 32 := Scalar.subi v21 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg10 : BitVec 32 := Scf.iv v26 c1_i32_12 k0_t2
  let c128_i32_21 : BitVec 32 := 128#32
  let v60 : BitVec 32 := Scalar.muli arg10 c128_i32_21
  let v61 : BitVec 32 := v60
  let v62 : Index := Scalar.indexCast v61
  let c0_22 : Index := 0#32
  ![v62.toNat, 0]
def k0_off5 (v6 : BitVec 32) (k0_t2 : Fin (k0_t2_loop v6).trips) : Fin 2 → Nat :=
  let c0_i32_10 : BitVec 32 := 0#32
  let c127_i32 : BitVec 32 := 127#32
  let v20 : BitVec 32 := Scalar.addi v6 c127_i32
  let c128_i32 : BitVec 32 := 128#32
  let v21 : BitVec 32 := Scalar.divsi v20 c128_i32
  let v22 : BitVec 32 := Scalar.subi v21 c0_i32_10
  let c1_i32 : BitVec 32 := 1#32
  let v24 : BitVec 32 := Scalar.divsi v22 c1_i32
  let v25 : BitVec 32 := Scalar.muli v24 c1_i32
  let v26 : BitVec 32 := Scalar.addi c0_i32_10 v25
  let c1_i32_12 : BitVec 32 := 1#32
  let arg10 : BitVec 32 := Scf.iv v26 c1_i32_12 k0_t2
  let c128_i32_21 : BitVec 32 := 128#32
  let v60 : BitVec 32 := Scalar.muli arg10 c128_i32_21
  let v61 : BitVec 32 := v60
  let v66 : Index := Scalar.indexCast v61
  let c0_24 : Index := 0#32
  ![v66.toNat, 0]

def k0_chk1 (v6 : BitVec 32) : Prop :=
  ((k0_t1_loop v6).OK) ∧
  (∀ k0_t1 : Fin (k0_t1_loop v6).trips, 128 ∣ (k0_mult1 v6 k0_t1).toNat) ∧
  (∀ k0_t1 : Fin (k0_t1_loop v6).trips, ∀ a, (k0_off2 v6 k0_t1) a + S128x16.size a ≤ S8192x16.size a) ∧
  (∀ k0_t1 : Fin (k0_t1_loop v6).trips, ∀ a, (k0_off3 v6 k0_t1) a + S128x1.size a ≤ S8192x1.size a) ∧
  ((k0_t2_loop v6).OK) ∧
  (∀ k0_t2 : Fin (k0_t2_loop v6).trips, 128 ∣ (k0_mult2 v6 k0_t2).toNat) ∧
  (∀ k0_t2 : Fin (k0_t2_loop v6).trips, ∀ a, (k0_off4 v6 k0_t2) a + S128x16.size a ≤ S8192x16.size a) ∧
  (∀ k0_t2 : Fin (k0_t2_loop v6).trips, ∀ a, (k0_off5 v6 k0_t2) a + S128x1.size a ≤ S8192x1.size a)
theorem k0_t1_ok : ∀ (v6 : BitVec 32) (k0_hw1 : k0_chk1 v6), (k0_t1_loop v6).OK := fun v6 k0_hw1 => k0_hw1.1
theorem k0_mult1_dvd : ∀ (v6 : BitVec 32) (k0_hw1 : k0_chk1 v6) (k0_t1 : Fin (k0_t1_loop v6).trips), 128 ∣ (k0_mult1 v6 k0_t1).toNat := fun v6 k0_hw1 k0_t1 => k0_hw1.2.1 k0_t1
theorem k0_off2_inb : ∀ (v6 : BitVec 32) (k0_hw1 : k0_chk1 v6) (k0_t1 : Fin (k0_t1_loop v6).trips), ∀ a, (k0_off2 v6 k0_t1) a + S128x16.size a ≤ S8192x16.size a := fun v6 k0_hw1 k0_t1 => k0_hw1.2.2.1 k0_t1
theorem k0_off3_inb : ∀ (v6 : BitVec 32) (k0_hw1 : k0_chk1 v6) (k0_t1 : Fin (k0_t1_loop v6).trips), ∀ a, (k0_off3 v6 k0_t1) a + S128x1.size a ≤ S8192x1.size a := fun v6 k0_hw1 k0_t1 => k0_hw1.2.2.2.1 k0_t1
theorem k0_t2_ok : ∀ (v6 : BitVec 32) (k0_hw1 : k0_chk1 v6), (k0_t2_loop v6).OK := fun v6 k0_hw1 => k0_hw1.2.2.2.2.1
theorem k0_mult2_dvd : ∀ (v6 : BitVec 32) (k0_hw1 : k0_chk1 v6) (k0_t2 : Fin (k0_t2_loop v6).trips), 128 ∣ (k0_mult2 v6 k0_t2).toNat := fun v6 k0_hw1 k0_t2 => k0_hw1.2.2.2.2.2.1 k0_t2
theorem k0_off4_inb : ∀ (v6 : BitVec 32) (k0_hw1 : k0_chk1 v6) (k0_t2 : Fin (k0_t2_loop v6).trips), ∀ a, (k0_off4 v6 k0_t2) a + S128x16.size a ≤ S8192x16.size a := fun v6 k0_hw1 k0_t2 => k0_hw1.2.2.2.2.2.2.1 k0_t2
theorem k0_off5_inb : ∀ (v6 : BitVec 32) (k0_hw1 : k0_chk1 v6) (k0_t2 : Fin (k0_t2_loop v6).trips), ∀ a, (k0_off5 v6 k0_t2) a + S128x1.size a ≤ S8192x1.size a := fun v6 k0_hw1 k0_t2 => k0_hw1.2.2.2.2.2.2.2 k0_t2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x16 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S6x12288x16 : Shape := ⟨3, ![6, 12288, 16]⟩
abbrev S6x12288 : Shape := ⟨2, ![6, 12288]⟩
abbrev S8192x16 : Shape := ⟨2, ![8192, 16]⟩
abbrev S8192 : Shape := ⟨1, ![8192]⟩
abbrev S6 : Shape := ⟨1, ![6]⟩
abbrev S_ : Shape := ⟨0, ![]⟩
abbrev S6x12288x8192 : Shape := ⟨3, ![6, 12288, 8192]⟩
abbrev S6x12288x1 : Shape := ⟨3, ![6, 12288, 1]⟩
abbrev S1x1x8192 : Shape := ⟨3, ![1, 1, 8192]⟩
abbrev S6x1x1 : Shape := ⟨3, ![6, 1, 1]⟩
abbrev S6x1x8192 : Shape := ⟨3, ![6, 1, 8192]⟩
abbrev S6x12288x2 : Shape := ⟨3, ![6, 12288, 2]⟩

abbrev nBuf : Space → Nat
  | .hbm => 56
  | .vmem => 4
  | .smem => 0
  | _ => 0

abbrev bufTy : (tb : Table) → Fin (tcTables nBuf tb) → BufTy
  | .hbm, ⟨0, _⟩ => ⟨S6x12288x16, .f32⟩
  | .hbm, ⟨1, _⟩ => ⟨S6x12288, .f32⟩
  | .hbm, ⟨2, _⟩ => ⟨S8192x16, .f32⟩
  | .hbm, ⟨3, _⟩ => ⟨S8192, .f32⟩
  | .hbm, ⟨4, _⟩ => ⟨S6, .i32⟩
  | .hbm, ⟨5, _⟩ => ⟨S6x12288x16, .fp8e4m3⟩
  | .hbm, ⟨6, _⟩ => ⟨S8192x16, .fp8e4m3⟩
  | .hbm, ⟨7, _⟩ => ⟨S6x12288x16, .f32⟩
  | .hbm, ⟨8, _⟩ => ⟨S8192x16, .f32⟩
  | .hbm, ⟨9, _⟩ => ⟨S6x12288, .f32⟩
  | .hbm, ⟨10, _⟩ => ⟨S6x12288x16, .f32⟩
  | .hbm, ⟨11, _⟩ => ⟨S_, .f32⟩
  | .hbm, ⟨12, _⟩ => ⟨S6x12288, .f32⟩
  | .hbm, ⟨13, _⟩ => ⟨S6x12288, .f32⟩
  | .hbm, ⟨14, _⟩ => ⟨S8192, .f32⟩
  | .hbm, ⟨15, _⟩ => ⟨S8192x16, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S6x12288x8192, .f32⟩
  | .hbm, ⟨20, _⟩ => ⟨S8192, .i32⟩
  | .hbm, ⟨21, _⟩ => ⟨S6x12288x1, .f32⟩
  | .hbm, ⟨22, _⟩ => ⟨S1x1x8192, .f32⟩
  | .hbm, ⟨23, _⟩ => ⟨S6x12288x8192, .f32⟩
  | .hbm, ⟨24, _⟩ => ⟨S6x12288x8192, .f32⟩
  | .hbm, ⟨25, _⟩ => ⟨S6x12288x8192, .f32⟩
  | .hbm, ⟨26, _⟩ => ⟨S6x12288x1, .f32⟩
  | .hbm, ⟨27, _⟩ => ⟨S1x1x8192, .f32⟩
  | .hbm, ⟨28, _⟩ => ⟨S6x12288x8192, .f32⟩
  | .hbm, ⟨29, _⟩ => ⟨S6x12288x8192, .f32⟩
  | .hbm, ⟨30, _⟩ => ⟨S6x12288x8192, .f32⟩
  | .hbm, ⟨31, _⟩ => ⟨S_, .f32⟩
  | .hbm, ⟨32, _⟩ => ⟨S6x12288x8192, .f32⟩
  | .hbm, ⟨33, _⟩ => ⟨S6x12288x8192, .f32⟩
  | .hbm, ⟨34, _⟩ => ⟨S6x12288x8192, .f32⟩
  | .hbm, ⟨35, _⟩ => ⟨S6x12288x8192, .f32⟩
  | .hbm, ⟨36, _⟩ => ⟨S6x1x1, .i32⟩
  | .hbm, ⟨37, _⟩ => ⟨S1x1x8192, .i32⟩
  | .hbm, ⟨38, _⟩ => ⟨S6x1x8192, .i32⟩
  | .hbm, ⟨39, _⟩ => ⟨S6x1x8192, .i32⟩
  | .hbm, ⟨40, _⟩ => ⟨S6x1x8192, .i1⟩
  | .hbm, ⟨41, _⟩ => ⟨S_, .f32⟩
  | .hbm, ⟨42, _⟩ => ⟨S_, .f32⟩
  | .hbm, ⟨43, _⟩ => ⟨S6x12288x8192, .i1⟩
  | .hbm, ⟨44, _⟩ => ⟨S6x12288x8192, .f32⟩
  | .hbm, ⟨45, _⟩ => ⟨S6x12288x8192, .f32⟩
  | .hbm, ⟨46, _⟩ => ⟨S6x12288x8192, .f32⟩
  | .hbm, ⟨47, _⟩ => ⟨S6x12288x2, .f32⟩
  | .hbm, ⟨48, _⟩ => ⟨S6x12288x2, .i32⟩
  | .hbm, ⟨49, _⟩ => ⟨S6x12288x1, .f32⟩
  | .hbm, ⟨50, _⟩ => ⟨S6x12288, .f32⟩
  | .hbm, ⟨51, _⟩ => ⟨S6x12288, .f32⟩
  | .hbm, ⟨52, _⟩ => ⟨S6x12288x1, .f32⟩
  | .hbm, ⟨53, _⟩ => ⟨S6x12288, .f32⟩
  | .hbm, ⟨54, _⟩ => ⟨S6x12288, .f32⟩
  | .hbm, ⟨55, _⟩ => ⟨S6x12288, .f32⟩
  | .local _ .vmem, ⟨0, _⟩ => ⟨S6x12288x16, .fp8e4m3⟩
  | .local _ .vmem, ⟨1, _⟩ => ⟨S8192x16, .fp8e4m3⟩
  | .local _ .vmem, ⟨2, _⟩ => ⟨S6x12288x16, .f32⟩
  | .local _ .vmem, ⟨3, _⟩ => ⟨S8192x16, .f32⟩
  | _, _ => ⟨S6x12288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_v33 : Ref sig .tc := ⟨.hbm, 46, rfl⟩
abbrev main_values : Ref sig .tc := ⟨.hbm, 47, rfl⟩
abbrev main_indices : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x12288x16 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x12288x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RefRun.lean ====
/- The run of the reference program: what its result arrays hold as one term of its arguments and of what its kernel region leaves,
   which is read off the program's list of host operations one operation at a time. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v2_0` (window 2's): not opened here. -/
def reg_main_v2_0 (c : Dev nD) : Buf (Elt F) ((c.tc : Thread nD τ).loc main_v2_0) := (Gen.dats m 0 c).arrAt 2 cfg0.N
/-- What the kernel region leaves in its result array `main_v2_1` (window 3's): not opened here. -/
def reg_main_v2_1 (c : Dev nD) : Buf (Elt F) ((c.tc : Thread nD τ).loc main_v2_1) := (Gen.dats m 0 c).arrAt 3 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at the region's result array `main_v2_0`. -/
theorem exit_main_v2_0 (c : Dev nD) : exitV m c (Proc.devRef .tc main_v2_0) = reg_main_v2_0 m c :=
  Pipeline.withArrays_arr spec0 Gen.launch0.win.arr_inj c (Gen.V0 m c) _ 2
/-- The exit contents at the region's result array `main_v2_1`. -/
theorem exit_main_v2_1 (c : Dev nD) : exitV m c (Proc.devRef .tc main_v2_1) = reg_main_v2_1 m c :=
  Pipeline.withArrays_arr spec0 Gen.launch0.win.arr_inj c (Gen.V0 m c) _ 3

set_option maxRecDepth 8192 in
/-- `main_v40`'s composed term of the arguments and the region's results (named: it is long). -/
def res_main_v40 (c : Dev nD) : Buf (Elt F) ((c.tc : Thread nD τ).loc main_v40) :=
  subf (Host.negf (shapeCast _ (extractStridedSlice S6x12288x1 ![0, 0, 1] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (m ((c.tc : Thread nD τ).loc main_arg4)))))) (subf (addf (broadcastInDim S6x12288x8192 ![0, 1, 2] bcast_S6x12288x1_S6x12288x8192_0_1_2 (broadcastInDim S6x12288x1 ![0, 1] bcast_S6x12288_S6x12288x1_0_1 (mulf (mulf (m ((c.tc : Thread nD τ).loc main_arg1)) (m ((c.tc : Thread nD τ).loc main_arg1))) (Host.reduceAdd (mulf (reg_main_v2_0 m c) (reg_main_v2_0 m c)) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (m ((c.tc : Thread nD τ).loc main_arg3)) (m ((c.tc : Thread nD τ).loc main_arg3))) (Host.reduceAdd (mulf (reg_main_v2_1 m c) (reg_main_v2_1 m c)) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (m ((c.tc : Thread nD τ).loc main_arg1)))) (broadcastInDim S6x12288x8192 ![0, 1, 2] bcast_S1x1x8192_S6x12288x8192_0_1_2 (broadcastInDim S1x1x8192 ![2] bcast_S8192_S1x1x8192_2 (m ((c.tc : Thread nD τ).loc main_arg3)))))) (Host.dotGeneral dot_S6x12288x16_S8192x16_S6x12288x8192_2_1_01_0_n_n none (reg_main_v2_0 m c) (reg_main_v2_1 m c)))) (broadcastInDim S6x12288x8192 ![] bcast_S_S6x12288x8192 (id (constant S_ .f32 0x7F800000#32))))) sliceFits_S6x12288x8192_S6x12288x2).1) slices_S6x12288x2_S6x12288x1_0_0_1) shapeCasts_S6x12288x1_S6x12288)) (Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (m ((c.tc : Thread nD τ).loc main_arg4)))))) (subf (addf (broadcastInDim S6x12288x8192 ![0, 1, 2] bcast_S6x12288x1_S6x12288x8192_0_1_2 (broadcastInDim S6x12288x1 ![0, 1] bcast_S6x12288_S6x12288x1_0_1 (mulf (mulf (m ((c.tc : Thread nD τ).loc main_arg1)) (m ((c.tc : Thread nD τ).loc main_arg1))) (Host.reduceAdd (mulf (reg_main_v2_0 m c) (reg_main_v2_0 m c)) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (m ((c.tc : Thread nD τ).loc main_arg3)) (m ((c.tc : Thread nD τ).loc main_arg3))) (Host.reduceAdd (mulf (reg_main_v2_1 m c) (reg_main_v2_1 m c)) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (m ((c.tc : Thread nD τ).loc main_arg1)))) (broadcastInDim S6x12288x8192 ![0, 1, 2] bcast_S1x1x8192_S6x12288x8192_0_1_2 (broadcastInDim S1x1x8192 ![2] bcast_S8192_S1x1x8192_2 (m ((c.tc : Thread nD τ).loc main_arg3)))))) (Host.dotGeneral dot_S6x12288x16_S8192x16_S6x12288x8192_2_1_01_0_n_n none (reg_main_v2_0 m c) (reg_main_v2_1 m c)))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288))

/-- `res_main_v40` by its position among the values @main returns, 1 counting from 0: the name for hand proofs to cite, since
    a re-print renumbers `main_v40`. An abbreviation: it unfolds to the `res_main_v40` that `run` states. -/
abbrev res_out1 (c : Dev nD) : Buf (Elt F) ((c.tc : Thread nD τ).loc main_v40) := res_main_v40 m c

set_option maxRecDepth 8192 in
set_option maxHeartbeats 2000000 in
/-- The later operations from any contents `V0`, read at result `main_v36`. -/
theorem tail_main_v36 (V0 : Valuation τ sig (Elt F)) :
    after (List.flatten [Gen.hostOps1, Gen.hostOps1_1, Gen.hostOps1_2]) V0 (Proc.devRef .tc main_v36) = Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (V0 (Proc.devRef .tc main_arg4)))))) (subf (addf (broadcastInDim S6x12288x8192 ![0, 1, 2] bcast_S6x12288x1_S6x12288x8192_0_1_2 (broadcastInDim S6x12288x1 ![0, 1] bcast_S6x12288_S6x12288x1_0_1 (mulf (mulf (V0 (Proc.devRef .tc main_arg1)) (V0 (Proc.devRef .tc main_arg1))) (Host.reduceAdd (mulf (V0 (Proc.devRef .tc main_v2_0)) (V0 (Proc.devRef .tc main_v2_0))) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (V0 (Proc.devRef .tc main_arg3)) (V0 (Proc.devRef .tc main_arg3))) (Host.reduceAdd (mulf (V0 (Proc.devRef .tc main_v2_1)) (V0 (Proc.devRef .tc main_v2_1))) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (V0 (Proc.devRef .tc main_arg1)))) (broadcastInDim S6x12288x8192 ![0, 1, 2] bcast_S1x1x8192_S6x12288x8192_0_1_2 (broadcastInDim S1x1x8192 ![2] bcast_S8192_S1x1x8192_2 (V0 (Proc.devRef .tc main_arg3)))))) (Host.dotGeneral dot_S6x12288x16_S8192x16_S6x12288x8192_2_1_01_0_n_n none (V0 (Proc.devRef .tc main_v2_0)) (V0 (Proc.devRef .tc main_v2_1))))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288) := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v36` after the later operations from the region's exit contents. -/
theorem fin_main_v36 (c : Dev nD) :
    Pipeline.afterTail₀ cfgs (Gen.dats m) 0 (Gen.V0 m) [Gen.hostOps1, Gen.hostOps1_1, Gen.hostOps1_2] c main_v36 = Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (m ((c.tc : Thread nD τ).loc main_arg4)))))) (subf (addf (broadcastInDim S6x12288x8192 ![0, 1, 2] bcast_S6x12288x1_S6x12288x8192_0_1_2 (broadcastInDim S6x12288x1 ![0, 1] bcast_S6x12288_S6x12288x1_0_1 (mulf (mulf (m ((c.tc : Thread nD τ).loc main_arg1)) (m ((c.tc : Thread nD τ).loc main_arg1))) (Host.reduceAdd (mulf (reg_main_v2_0 m c) (reg_main_v2_0 m c)) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (m ((c.tc : Thread nD τ).loc main_arg3)) (m ((c.tc : Thread nD τ).loc main_arg3))) (Host.reduceAdd (mulf (reg_main_v2_1 m c) (reg_main_v2_1 m c)) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (m ((c.tc : Thread nD τ).loc main_arg1)))) (broadcastInDim S6x12288x8192 ![0, 1, 2] bcast_S1x1x8192_S6x12288x8192_0_1_2 (broadcastInDim S1x1x8192 ![2] bcast_S8192_S1x1x8192_2 (m ((c.tc : Thread nD τ).loc main_arg3)))))) (Host.dotGeneral dot_S6x12288x16_S8192x16_S6x12288x8192_2_1_01_0_n_n none (reg_main_v2_0 m c) (reg_main_v2_1 m c)))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288) :=
  (tail_main_v36 (exitV m c)).trans (by rw [exit_main_arg1, exit_main_arg3, exit_main_arg4, exit_main_v2_0, exit_main_v2_1])

set_option maxRecDepth 8192 in
set_option maxHeartbeats 2000000 in
/-- The later operations from any contents `V0`, read at result `main_v40`. -/
theorem tail_main_v40 (V0 : Valuation τ sig (Elt F)) :
    after (List.flatten [Gen.hostOps1, Gen.hostOps1_1, Gen.hostOps1_2]) V0 (Proc.devRef .tc main_v40) = subf (Host.negf (shapeCast _ (extractStridedSlice S6x12288x1 ![0, 0, 1] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (V0 (Proc.devRef .tc main_arg4)))))) (subf (addf (broadcastInDim S6x12288x8192 ![0, 1, 2] bcast_S6x12288x1_S6x12288x8192_0_1_2 (broadcastInDim S6x12288x1 ![0, 1] bcast_S6x12288_S6x12288x1_0_1 (mulf (mulf (V0 (Proc.devRef .tc main_arg1)) (V0 (Proc.devRef .tc main_arg1))) (Host.reduceAdd (mulf (V0 (Proc.devRef .tc main_v2_0)) (V0 (Proc.devRef .tc main_v2_0))) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (V0 (Proc.devRef .tc main_arg3)) (V0 (Proc.devRef .tc main_arg3))) (Host.reduceAdd (mulf (V0 (Proc.devRef .tc main_v2_1)) (V0 (Proc.devRef .tc main_v2_1))) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (V0 (Proc.devRef .tc main_arg1)))) (broadcastInDim S6x12288x8192 ![0, 1, 2] bcast_S1x1x8192_S6x12288x8192_0_1_2 (broadcastInDim S1x1x8192 ![2] bcast_S8192_S1x1x8192_2 (V0 (Proc.devRef .tc main_arg3)))))) (Host.dotGeneral dot_S6x12288x16_S8192x16_S6x12288x8192_2_1_01_0_n_n none (V0 (Proc.devRef .tc main_v2_0)) (V0 (Proc.devRef .tc main_v2_1))))) (broadcastInDim S6x12288x8192 ![] bcast_S_S6x12288x8192 (id (constant S_ .f32 0x7F800000#32))))) sliceFits_S6x12288x8192_S6x12288x2).1) slices_S6x12288x2_S6x12288x1_0_0_1) shapeCasts_S6x12288x1_S6x12288)) (Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (V0 (Proc.devRef .tc main_arg4)))))) (subf (addf (broadcastInDim S6x12288x8192 ![0, 1, 2] bcast_S6x12288x1_S6x12288x8192_0_1_2 (broadcastInDim S6x12288x1 ![0, 1] bcast_S6x12288_S6x12288x1_0_1 (mulf (mulf (V0 (Proc.devRef .tc main_arg1)) (V0 (Proc.devRef .tc main_arg1))) (Host.reduceAdd (mulf (V0 (Proc.devRef .tc main_v2_0)) (V0 (Proc.devRef .tc main_v2_0))) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (V0 (Proc.devRef .tc main_arg3)) (V0 (Proc.devRef .tc main_arg3))) (Host.reduceAdd (mulf (V0 (Proc.devRef .tc main_v2_1)) (V0 (Proc.devRef .tc main_v2_1))) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (V0 (Proc.devRef .tc main_arg1)))) (broadcastInDim S6x12288x8192 ![0, 1, 2] bcast_S1x1x8192_S6x12288x8192_0_1_2 (broadcastInDim S1x1x8192 ![2] bcast_S8192_S1x1x8192_2 (V0 (Proc.devRef .tc main_arg3)))))) (Host.dotGeneral dot_S6x12288x16_S8192x16_S6x12288x8192_2_1_01_0_n_n none (V0 (Proc.devRef .tc main_v2_0)) (V0 (Proc.devRef .tc main_v2_1))))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288)) := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v40` after the later operations from the region's exit contents. -/
theorem fin_main_v40 (c : Dev nD) :
    Pipeline.afterTail₀ cfgs (Gen.dats m) 0 (Gen.V0 m) [Gen.hostOps1, Gen.hostOps1_1, Gen.hostOps1_2] c main_v40 = res_main_v40 m c :=
  by unfold res_main_v40; exact (tail_main_v40 (exitV m c)).trans (by rw [exit_main_arg1, exit_main_arg3, exit_main_arg4, exit_main_v2_0, exit_main_v2_1]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v36) = Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (m ((c.tc : Thread nD τ).loc main_arg4)))))) (subf (addf (broadcastInDim S6x12288x8192 ![0, 1, 2] bcast_S6x12288x1_S6x12288x8192_0_1_2 (broadcastInDim S6x12288x1 ![0, 1] bcast_S6x12288_S6x12288x1_0_1 (mulf (mulf (m ((c.tc : Thread nD τ).loc main_arg1)) (m ((c.tc : Thread nD τ).loc main_arg1))) (Host.reduceAdd (mulf (reg_main_v2_0 m c) (reg_main_v2_0 m c)) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (m ((c.tc : Thread nD τ).loc main_arg3)) (m ((c.tc : Thread nD τ).loc main_arg3))) (Host.reduceAdd (mulf (reg_main_v2_1 m c) (reg_main_v2_1 m c)) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (m ((c.tc : Thread nD τ).loc main_arg1)))) (broadcastInDim S6x12288x8192 ![0, 1, 2] bcast_S1x1x8192_S6x12288x8192_0_1_2 (broadcastInDim S1x1x8192 ![2] bcast_S8192_S1x1x8192_2 (m ((c.tc : Thread nD τ).loc main_arg3)))))) (Host.dotGeneral dot_S6x12288x16_S8192x16_S6x12288x8192_2_1_01_0_n_n none (reg_main_v2_0 m c) (reg_main_v2_1 m c)))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288)
      ∧ r.2.mem ((c.tc : Thread nD τ).loc main_v40) = res_main_v40 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v36 (Pipeline.mem_restRefs_of main_v36 (by decide) (by decide))).trans (fin_main_v36 m c),
      ((h c).2 main_v40 (Pipeline.mem_restRefs_of main_v40 (by decide) (by decide))).trans (fin_main_v40 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩) (Gen.run_main m ρ)

end Cert.ReferenceIdeal.Value

end
-- ==== Proof.RefRead.lean ====
/- The reference program one operation at a time: `val_<buffer>` is the value an operation after the kernel region writes, as a function
   of the program's arguments (`x1`, `x3`, `x4`) and of what the region leaves (`r0`, `r1`), and `val_<buffer>_apply` reads it at an
   index. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.multiply %arg1, %arg1 : tensor<6x12288xf32>
/-- The reference's stage `main_v3`, as a function of the arrays it reads. -/
def val_main_v3 (x1 : (⟨S6x12288, .f32⟩ : BufTy).Contents (Elt F)) : (⟨S6x12288, .f32⟩ : BufTy).Contents (Elt F) :=
  mulf (x1) (x1)
/-- An entry of the reference's stage `main_v3`, from entries of the stages before it. -/
theorem val_main_v3_apply (x1 : (⟨S6x12288, .f32⟩ : BufTy).Contents (Elt F)) (i : S6x12288.Idx) :
    val_main_v3 (F := F) x1 i = FloatOps.mulf (x1 i) (x1 i) := rfl

-- %2 = stablehlo.multiply %0#0, %0#0 : tensor<6x12288x16xf32>
/-- The reference's stage `main_v4`, as a function of the arrays it reads. -/
def val_main_v4 (r0 : (⟨S6x12288x16, .f32⟩ : BufTy).Contents (Elt F)) : (⟨S6x12288x16, .f32⟩ : BufTy).Contents (Elt F) :=
  mulf (r0) (r0)
/-- An entry of the reference's stage `main_v4`, from entries of the stages before it. -/
theorem val_main_v4_apply (r0 : (⟨S6x12288x16, .f32⟩ : BufTy).Contents (Elt F)) (i : S6x12288x16.Idx) :
    val_main_v4 (F := F) r0 i = FloatOps.mulf (r0 i) (r0 i) := rfl

-- %cst = stablehlo.constant dense<0.000000e+00> : tensor<f32>
/-- The reference's stage `main_cst`, as a function of the arrays it reads. -/
def val_main_cst : (⟨S_, .f32⟩ : BufTy).Contents (Elt F) :=
  constant S_ .f32 0x00000000#32
/-- An entry of the reference's stage `main_cst`, from entries of the stages before it. -/
theorem val_main_cst_apply (i : S_.Idx) :
    val_main_cst (F := F) i = FloatOps.ofBits .f32 0x00000000#32 := rfl

-- %3 = stablehlo.reduce(%2 init: %cst) applies stablehlo.add across dimensions = [2] : (tensor<6x12288x16xf32>, tensor<f32>) -> tensor<6x12288xf32> {
/-- The reference's stage `main_v5`, as a function of the arrays it reads. -/
def val_main_v5 (r0 : (⟨S6x12288x16, .f32⟩ : BufTy).Contents (Elt F)) : (⟨S6x12288, .f32⟩ : BufTy).Contents (Elt F) :=
  Host.reduceAdd (val_main_v4 (F := F) r0) (val_main_cst (F := F)) reducesTo_S6x12288x16_S6x12288_d2 h_S_
/-- The entry that an entry of `main_v5` is read from. -/
abbrev idx_main_v5 (i : S6x12288.Idx) (k : Fin 16) : S6x12288x16.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v5_apply (r0 : (⟨S6x12288x16, .f32⟩ : BufTy).Contents (Elt Ideal)) (i : S6x12288.Idx) :
    val_main_v5 (F := Ideal) r0 i = (val_main_cst (F := Ideal)) (Shape.Idx.first h_S_) + ∑ k : Fin 16, (val_main_v4 (F := Ideal) r0) (idx_main_v5 i k) := by
  unfold val_main_v5
  generalize val_main_v4 (F := Ideal) r0 = y0
  simp only [Host.reduceAdd, Ideal.hostReduceAdd_def]
  rw [Ideal.hostReduceAdd_single reducesTo_S6x12288x16_S6x12288_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %4 = stablehlo.multiply %1, %3 : tensor<6x12288xf32>
/-- The reference's stage `main_v6`, as a function of the arrays it reads. -/
def val_main_v6 (x1 : (⟨S6x12288, .f32⟩ : BufTy).Contents (Elt F)) (r0 : (⟨S6x12288x16, .f32⟩ : BufTy).Contents (Elt F)) : (⟨S6x12288, .f32⟩ : BufTy).Contents (Elt F) :=
  mulf (val_main_v3 (F := F) x1) (val_main_v5 (F := F) r0)
/-- An entry of the reference's stage `main_v6`, from entries of the stages before it. -/
theorem val_main_v6_apply (x1 : (⟨S6x12288, .f32⟩ : BufTy).Contents (Elt F)) (r0 : (⟨S6x12288x16, .f32⟩ : BufTy).Contents (Elt F)) (i : S6x12288.Idx) :
    val_main_v6 (F := F) x1 r0 i = FloatOps.mulf (val_main_v3 (F := F) x1 i) (val_main_v5 (F := F) r0 i) := rfl

-- %5 = stablehlo.multiply %arg3, %arg3 : tensor<8192xf32>
/-- The reference's stage `main_v7`, as a function of the arrays it reads. -/
def val_main_v7 (x3 : (⟨S8192, .f32⟩ : BufTy).Contents (Elt F)) : (⟨S8192, .f32⟩ : BufTy).Contents (Elt F) :=
  mulf (x3) (x3)
/-- An entry of the reference's stage `main_v7`, from entries of the stages before it. -/
theorem val_main_v7_apply (x3 : (⟨S8192, .f32⟩ : BufTy).Contents (Elt F)) (i : S8192.Idx) :
    val_main_v7 (F := F) x3 i = FloatOps.mulf (x3 i) (x3 i) := rfl

-- %6 = stablehlo.multiply %0#1, %0#1 : tensor<8192x16xf32>
/-- The reference's stage `main_v8`, as a function of the arrays it reads. -/
def val_main_v8 (r1 : (⟨S8192x16, .f32⟩ : BufTy).Contents (Elt F)) : (⟨S8192x16, .f32⟩ : BufTy).Contents (Elt F) :=
  mulf (r1) (r1)
/-- An entry of the reference's stage `main_v8`, from entries of the stages before it. -/
theorem val_main_v8_apply (r1 : (⟨S8192x16, .f32⟩ : BufTy).Contents (Elt F)) (i : S8192x16.Idx) :
    val_main_v8 (F := F) r1 i = FloatOps.mulf (r1 i) (r1 i) := rfl

-- %cst_0 = stablehlo.constant dense<0.000000e+00> : tensor<f32>
/-- The reference's stage `main_cst_0`, as a function of the arrays it reads. -/
def val_main_cst_0 : (⟨S_, .f32⟩ : BufTy).Contents (Elt F) :=
  constant S_ .f32 0x00000000#32
/-- An entry of the reference's stage `main_cst_0`, from entries of the stages before it. -/
theorem val_main_cst_0_apply (i : S_.Idx) :
    val_main_cst_0 (F := F) i = FloatOps.ofBits .f32 0x00000000#32 := rfl

-- %7 = stablehlo.reduce(%6 init: %cst_0) applies stablehlo.add across dimensions = [1] : (tensor<8192x16xf32>, tensor<f32>) -> tensor<8192xf32> {
/-- The reference's stage `main_v9`, as a function of the arrays it reads. -/
def val_main_v9 (r1 : (⟨S8192x16, .f32⟩ : BufTy).Contents (Elt F)) : (⟨S8192, .f32⟩ : BufTy).Contents (Elt F) :=
  Host.reduceAdd (val_main_v8 (F := F) r1) (val_main_cst_0 (F := F)) reducesTo_S8192x16_S8192_d1 h_S_
/-- The entry that an entry of `main_v9` is read from. -/
abbrev idx_main_v9 (i : S8192.Idx) (k : Fin 16) : S8192x16.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v9_apply (r1 : (⟨S8192x16, .f32⟩ : BufTy).Contents (Elt Ideal)) (i : S8192.Idx) :
    val_main_v9 (F := Ideal) r1 i = (val_main_cst_0 (F := Ideal)) (Shape.Idx.first h_S_) + ∑ k : Fin 16, (val_main_v8 (F := Ideal) r1) (idx_main_v9 i k) := by
  unfold val_main_v9
  generalize val_main_v8 (F := Ideal) r1 = y0
  simp only [Host.reduceAdd, Ideal.hostReduceAdd_def]
  rw [Ideal.hostReduceAdd_single reducesTo_S8192x16_S8192_d1 (by decide)]
  refine congrArg (_ + ·) (Finset.sum_congr rfl fun k _ => ?_)
  exact congrArg y0 (funext fun a => Fin.ext (by match a with | ⟨0, _⟩ => rfl | ⟨1, _⟩ => rfl))

-- %8 = stablehlo.multiply %5, %7 : tensor<8192xf32>
/-- The reference's stage `main_v10`, as a function of the arrays it reads. -/
def val_main_v10 (x3 : (⟨S8192, .f32⟩ : BufTy).Contents (Elt F)) (r1 : (⟨S8192x16, .f32⟩ : BufTy).Contents (Elt F)) : (⟨S8192, .f32⟩ : BufTy).Contents (Elt F) :=
  mulf (val_main_v7 (F := F) x3) (val_main_v9 (F := F) r1)
/-- An entry of the reference's stage `main_v10`, from entries of the stages before it. -/
theorem val_main_v10_apply (x3 : (⟨S8192, .f32⟩ : BufTy).Contents (Elt F)) (r1 : (⟨S8192x16, .f32⟩ : BufTy).Contents (Elt F)) (i : S8192.Idx) :
    val_main_v10 (F := F) x3 r1 i = FloatOps.mulf (val_main_v7 (F := F) x3 i) (val_main_v9 (F := F) r1 i) := rfl

-- %9 = stablehlo.dot_general %0#0, %0#1, contracting_dims = [2] x [1], precision = [DEFAULT, DEFAULT] : (tensor<6x12288x16xf32>, tensor<8192x16xf32>) -> tensor<6x12288x8192xf32>
/-- The reference's stage `main_v11`, as a function of the arrays it reads. -/
def val_main_v11 (r0 : (⟨S6x12288x16, .f32⟩ : BufTy).Contents (Elt F)) (r1 : (⟨S8192x16, .f32⟩ : BufTy).Contents (Elt F)) : (⟨S6x12288x8192, .f32⟩ : BufTy).Contents (Elt F) :=
  Host.dotGeneral dot_S6x12288x16_S8192x16_S6x12288x8192_2_1_01_0_n_n none (r0) (r1)
/-- Coordinate 0 of the left operand's entry in the product. -/
theorem lhs_main_v11_0 (i : S6x12288x8192.Idx) (q : dot_S6x12288x16_S8192x16_S6x12288x8192_2_1_01_0_n_n.contr.Idx) :
    (dot_S6x12288x16_S8192x16_S6x12288x8192_2_1_01_0_n_n.lhsIdx i q 0).val = (i 0).val := by
  unfold DotDims.lhsIdx
  rw [dif_neg (show ¬(0 : Fin S6x12288x16.rank) ∈ dot_S6x12288x16_S8192x16_S6x12288x8192_2_1_01_0_n_n.lhsBatch by decide), dif_pos (show (0 : Fin S6x12288x16.rank) ∈ dot_S6x12288x16_S8192x16_S6x12288x8192_2_1_01_0_n_n.lhsNonContracting by decide)]
  rfl
/-- Coordinate 1 of the left operand's entry in the product. -/
theorem lhs_main_v11_1 (i : S6x12288x8192.Idx) (q : dot_S6x12288x16_S8192x16_S6x12288x8192_2_1_01_0_n_n.contr.Idx) :
    (dot_S6x12288x16_S8192x16_S6x12288x8192_2_1_01_0_n_n.lhsIdx i q 1).val = (i 1).val := by
  unfold DotDims.lhsIdx
  rw [dif_neg (show ¬(1 : Fin S6x12288x16.rank) ∈ dot_S6x12288x16_S8192x16_S6x12288x8192_2_1_01_0_n_n.lhsBatch by decide), dif_pos (show (1 : Fin S6x12288x16.rank) ∈ dot_S6x12288x16_S8192x16_S6x12288x8192_2_1_01_0_n_n.lhsNonContracting by decide)]
  rfl
/-- Coordinate 2 of the left operand's entry in the product. -/
theorem lhs_main_v11_2 (i : S6x12288x8192.Idx) (q : dot_S6x12288x16_S8192x16_S6x12288x8192_2_1_01_0_n_n.contr.Idx) :
    (dot_S6x12288x16_S8192x16_S6x12288x8192_2_1_01_0_n_n.lhsIdx i q 2).val = (q ⟨0, by decide⟩).val :=
  dot_S6x12288x16_S8192x16_S6x12288x8192_2_1_01_0_n_n.lhsIdx_val_of_single rfl i q
/-- Coordinate 0 of the right operand's entry in the product. -/
theorem rhs_main_v11_0 (i : S6x12288x8192.Idx) (q : dot_S6x12288x16_S8192x16_S6x12288x8192_2_1_01_0_n_n.contr.Idx) :
    (dot_S6x12288x16_S8192x16_S6x12288x8192_2_1_01_0_n_n.rhsIdx i q 0).val = (i 2).val := by
  unfold DotDims.rhsIdx
  rw [dif_neg (show ¬(0 : Fin S8192x16.rank) ∈ dot_S6x12288x16_S8192x16_S6x12288x8192_2_1_01_0_n_n.rhsBatch by decide), dif_pos (show (0 : Fin S8192x16.rank) ∈ dot_S6x12288x16_S8192x16_S6x12288x8192_2_1_01_0_n_n.rhsNonContracting by decide)]
  rfl
/-- Coordinate 1 of the right operand's entry in the product. -/
theorem rhs_main_v11_1 (i : S6x12288x8192.Idx) (q : dot_S6x12288x16_S8192x16_S6x12288x8192_2_1_01_0_n_n.contr.Idx) :
    (dot_S6x12288x16_S8192x16_S6x12288x8192_2_1_01_0_n_n.rhsIdx i q 1).val = (q ⟨0, by decide⟩).val :=
  dot_S6x12288x16_S8192x16_S6x12288x8192_2_1_01_0_n_n.rhsIdx_val_of_single rfl i q
/-- The entry of the product's left operand under an entry of `main_v11` and a feature. -/
abbrev lidx_main_v11 (i : S6x12288x8192.Idx) (k : Fin 16) : S6x12288x16.Idx := fun a => match a with
  | ⟨0, _⟩ => ⟨(i 0).val, (i 0).isLt⟩
  | ⟨1, _⟩ => ⟨(i 1).val, (i 1).isLt⟩
  | ⟨2, _⟩ => ⟨k.val, k.isLt⟩
/-- The entry of the product's right operand under an entry of `main_v11` and a feature. -/
abbrev ridx_main_v11 (i : S6x12288x8192.Idx) (k : Fin 16) : S8192x16.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v11_apply (r0 : (⟨S6x12288x16, .f32⟩ : BufTy).Contents (Elt Ideal)) (r1 : (⟨S8192x16, .f32⟩ : BufTy).Contents (Elt Ideal)) (i : S6x12288x8192.Idx) :
    val_main_v11 (F := Ideal) r0 r1 i = ∑ k : Fin 16, r0 (lidx_main_v11 i k) * r1 (ridx_main_v11 i k) := by
  unfold val_main_v11
  simp only [Host.dotGeneral]
  rw [Ideal.dotGeneral_apply, ← Equiv.sum_comp (ValueIdx.contrEquiv1 dot_S6x12288x16_S8192x16_S6x12288x8192_2_1_01_0_n_n 16 rfl rfl).symm]
  refine Finset.sum_congr rfl fun k _ => ?_
  have hk := ValueIdx.contrEquiv1_symm_val dot_S6x12288x16_S8192x16_S6x12288x8192_2_1_01_0_n_n 16 rfl rfl k
  have el : dot_S6x12288x16_S8192x16_S6x12288x8192_2_1_01_0_n_n.lhsIdx i ((ValueIdx.contrEquiv1 dot_S6x12288x16_S8192x16_S6x12288x8192_2_1_01_0_n_n 16 rfl rfl).symm k) = lidx_main_v11 i k := funext fun a => Fin.ext (by
    match a with
    | ⟨0, _⟩ => exact lhs_main_v11_0 _ _
    | ⟨1, _⟩ => exact lhs_main_v11_1 _ _
    | ⟨2, _⟩ => exact (lhs_main_v11_2 _ _).trans hk)
  have er : dot_S6x12288x16_S8192x16_S6x12288x8192_2_1_01_0_n_n.rhsIdx i ((ValueIdx.contrEquiv1 dot_S6x12288x16_S8192x16_S6x12288x8192_2_1_01_0_n_n 16 rfl rfl).symm k) = ridx_main_v11 i k := funext fun a => Fin.ext (by
    match a with
    | ⟨0, _⟩ => exact rhs_main_v11_0 _ _
    | ⟨1, _⟩ => exact (rhs_main_v11_1 _ _).trans hk)
  rw [el, er]

-- %10 = stablehlo.iota dim = 0 : tensor<8192xi32>
/-- The reference's stage `main_v12`, as a function of the arrays it reads. -/
def val_main_v12 : (⟨S8192, .i32⟩ : BufTy).Contents (Elt F) :=
  iotaInDim S8192 32 0
/-- An entry of the reference's stage `main_v12`, from entries of the stages before it. -/
theorem val_main_v12_apply (i : S8192.Idx) :
    val_main_v12 (F := F) i = BitVec.ofNat 32 (i 0).val := rfl

-- %11 = stablehlo.broadcast_in_dim %4, dims = [0, 1] : (tensor<6x12288xf32>) -> tensor<6x12288x1xf32>
/-- The reference's stage `main_v13`, as a function of the arrays it reads. -/
def val_main_v13 (x1 : (⟨S6x12288, .f32⟩ : BufTy).Contents (Elt F)) (r0 : (⟨S6x12288x16, .f32⟩ : BufTy).Contents (Elt F)) : (⟨S6x12288x1, .f32⟩ : BufTy).Contents (Elt F) :=
  broadcastInDim S6x12288x1 ![0, 1] bcast_S6x12288_S6x12288x1_0_1 (val_main_v6 (F := F) x1 r0)
/-- The entry that an entry of `main_v13` is read from. -/
abbrev idx_main_v13 (i : S6x12288x1.Idx) : S6x12288.Idx := fun a => match a with
  | ⟨0, _⟩ => ⟨(i 0).val, (i 0).isLt⟩
  | ⟨1, _⟩ => ⟨(i 1).val, (i 1).isLt⟩
/-- An entry of the reference's stage `main_v13`, from entries of the stages before it. -/
theorem val_main_v13_apply (x1 : (⟨S6x12288, .f32⟩ : BufTy).Contents (Elt F)) (r0 : (⟨S6x12288x16, .f32⟩ : BufTy).Contents (Elt F)) (i : S6x12288x1.Idx) :
    val_main_v13 (F := F) x1 r0 i = val_main_v6 (F := F) x1 r0 (idx_main_v13 i) := by
  unfold val_main_v13
  generalize val_main_v6 (F := F) x1 r0 = y
  exact broadcastInDim_apply _ bcast_S6x12288_S6x12288x1_0_1 y i (idx_main_v13 i) (fun a => match a with
    | ⟨0, _⟩ => by show (i 0).val = if (6 : Nat) = 1 then 0 else (i 0).val; rw [if_neg (by decide)]
    | ⟨1, _⟩ => by show (i 1).val = if (12288 : Nat) = 1 then 0 else (i 1).val; rw [if_neg (by decide)])

-- %12 = stablehlo.broadcast_in_dim %8, dims = [2] : (tensor<8192xf32>) -> tensor<1x1x8192xf32>
/-- The reference's stage `main_v14`, as a function of the arrays it reads. -/
def val_main_v14 (x3 : (⟨S8192, .f32⟩ : BufTy).Contents (Elt F)) (r1 : (⟨S8192x16, .f32⟩ : BufTy).Contents (Elt F)) : (⟨S1x1x8192, .f32⟩ : BufTy).Contents (Elt F) :=
  broadcastInDim S1x1x8192 ![2] bcast_S8192_S1x1x8192_2 (val_main_v10 (F := F) x3 r1)
/-- The entry that an entry of `main_v14` is read from. -/
abbrev idx_main_v14 (i : S1x1x8192.Idx) : S8192.Idx := fun a => match a with
  | ⟨0, _⟩ => ⟨(i 2).val, (i 2).isLt⟩
/-- An entry of the reference's stage `main_v14`, from entries of the stages before it. -/
theorem val_main_v14_apply (x3 : (⟨S8192, .f32⟩ : BufTy).Contents (Elt F)) (r1 : (⟨S8192x16, .f32⟩ : BufTy).Contents (Elt F)) (i : S1x1x8192.Idx) :
    val_main_v14 (F := F) x3 r1 i = val_main_v10 (F := F) x3 r1 (idx_main_v14 i) := by
  unfold val_main_v14
  generalize val_main_v10 (F := F) x3 r1 = y
  exact broadcastInDim_apply _ bcast_S8192_S1x1x8192_2 y i (idx_main_v14 i) (fun a => match a with
    | ⟨0, _⟩ => by show (i 2).val = if (8192 : Nat) = 1 then 0 else (i 2).val; rw [if_neg (by decide)])

-- %13 = stablehlo.broadcast_in_dim %11, dims = [0, 1, 2] : (tensor<6x12288x1xf32>) -> tensor<6x12288x8192xf32>
/-- The reference's stage `main_v15`, as a function of the arrays it reads. -/
def val_main_v15 (x1 : (⟨S6x12288, .f32⟩ : BufTy).Contents (Elt F)) (r0 : (⟨S6x12288x16, .f32⟩ : BufTy).Contents (Elt F)) : (⟨S6x12288x8192, .f32⟩ : BufTy).Contents (Elt F) :=
  broadcastInDim S6x12288x8192 ![0, 1, 2] bcast_S6x12288x1_S6x12288x8192_0_1_2 (val_main_v13 (F := F) x1 r0)
/-- The entry that an entry of `main_v15` is read from. -/
abbrev idx_main_v15 (i : S6x12288x8192.Idx) : S6x12288x1.Idx := fun a => match a with
  | ⟨0, _⟩ => ⟨(i 0).val, (i 0).isLt⟩
  | ⟨1, _⟩ => ⟨(i 1).val, (i 1).isLt⟩
  | ⟨2, _⟩ => ⟨0, Nat.one_pos⟩
/-- An entry of the reference's stage `main_v15`, from entries of the stages before it. -/
theorem val_main_v15_apply (x1 : (⟨S6x12288, .f32⟩ : BufTy).Contents (Elt F)) (r0 : (⟨S6x12288x16, .f32⟩ : BufTy).Contents (Elt F)) (i : S6x12288x8192.Idx) :
    val_main_v15 (F := F) x1 r0 i = val_main_v13 (F := F) x1 r0 (idx_main_v15 i) := by
  unfold val_main_v15
  generalize val_main_v13 (F := F) x1 r0 = y
  exact broadcastInDim_apply _ bcast_S6x12288x1_S6x12288x8192_0_1_2 y i (idx_main_v15 i) (fun a => match a with
    | ⟨0, _⟩ => by show (i 0).val = if (6 : Nat) = 1 then 0 else (i 0).val; rw [if_neg (by decide)]
    | ⟨1, _⟩ => by show (i 1).val = if (12288 : Nat) = 1 then 0 else (i 1).val; rw [if_neg (by decide)]
    | ⟨2, _⟩ => by show 0 = if (1 : Nat) = 1 then 0 else (i 2).val; rw [if_pos rfl])

-- %14 = stablehlo.broadcast_in_dim %12, dims = [0, 1, 2] : (tensor<1x1x8192xf32>) -> tensor<6x12288x8192xf32>
/-- The reference's stage `main_v16`, as a function of the arrays it reads. -/
def val_main_v16 (x3 : (⟨S8192, .f32⟩ : BufTy).Contents (Elt F)) (r1 : (⟨S8192x16, .f32⟩ : BufTy).Contents (Elt F)) : (⟨S6x12288x8192, .f32⟩ : BufTy).Contents (Elt F) :=
  broadcastInDim S6x12288x8192 ![0, 1, 2] bcast_S1x1x8192_S6x12288x8192_0_1_2 (val_main_v14 (F := F) x3 r1)
/-- The entry that an entry of `main_v16` is read from. -/
abbrev idx_main_v16 (i : S6x12288x8192.Idx) : S1x1x8192.Idx := fun a => match a with
  | ⟨0, _⟩ => ⟨0, Nat.one_pos⟩
  | ⟨1, _⟩ => ⟨0, Nat.one_pos⟩
  | ⟨2, _⟩ => ⟨(i 2).val, (i 2).isLt⟩
/-- An entry of the reference's stage `main_v16`, from entries of the stages before it. -/
theorem val_main_v16_apply (x3 : (⟨S8192, .f32⟩ : BufTy).Contents (Elt F)) (r1 : (⟨S8192x16, .f32⟩ : BufTy).Contents (Elt F)) (i : S6x12288x8192.Idx) :
    val_main_v16 (F := F) x3 r1 i = val_main_v14 (F := F) x3 r1 (idx_main_v16 i) := by
  unfold val_main_v16
  generalize val_main_v14 (F := F) x3 r1 = y
  exact broadcastInDim_apply _ bcast_S1x1x8192_S6x12288x8192_0_1_2 y i (idx_main_v16 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %15 = stablehlo.add %13, %14 : tensor<6x12288x8192xf32>
/-- The reference's stage `main_v17`, as a function of the arrays it reads. -/
def val_main_v17 (x1 : (⟨S6x12288, .f32⟩ : BufTy).Contents (Elt F)) (x3 : (⟨S8192, .f32⟩ : BufTy).Contents (Elt F)) (r0 : (⟨S6x12288x16, .f32⟩ : BufTy).Contents (Elt F)) (r1 : (⟨S8192x16, .f32⟩ : BufTy).Contents (Elt F)) : (⟨S6x12288x8192, .f32⟩ : BufTy).Contents (Elt F) :=
  addf (val_main_v15 (F := F) x1 r0) (val_main_v16 (F := F) x3 r1)
/-- An entry of the reference's stage `main_v17`, from entries of the stages before it. -/
theorem val_main_v17_apply (x1 : (⟨S6x12288, .f32⟩ : BufTy).Contents (Elt F)) (x3 : (⟨S8192, .f32⟩ : BufTy).Contents (Elt F)) (r0 : (⟨S6x12288x16, .f32⟩ : BufTy).Contents (Elt F)) (r1 : (⟨S8192x16, .f32⟩ : BufTy).Contents (Elt F)) (i : S6x12288x8192.Idx) :
    val_main_v17 (F := F) x1 x3 r0 r1 i = FloatOps.addf (val_main_v15 (F := F) x1 r0 i) (val_main_v16 (F := F) x3 r1 i) := rfl

-- %16 = stablehlo.broadcast_in_dim %arg1, dims = [0, 1] : (tensor<6x12288xf32>) -> tensor<6x12288x1xf32>
/-- The reference's stage `main_v18`, as a function of the arrays it reads. -/
def val_main_v18 (x1 : (⟨S6x12288, .f32⟩ : BufTy).Contents (Elt F)) : (⟨S6x12288x1, .f32⟩ : BufTy).Contents (Elt F) :=
  broadcastInDim S6x12288x1 ![0, 1] bcast_S6x12288_S6x12288x1_0_1 (x1)
/-- The entry that an entry of `main_v18` is read from. -/
abbrev idx_main_v18 (i : S6x12288x1.Idx) : S6x12288.Idx := fun a => match a with
  | ⟨0, _⟩ => ⟨(i 0).val, (i 0).isLt⟩
  | ⟨1, _⟩ => ⟨(i 1).val, (i 1).isLt⟩
/-- An entry of the reference's stage `main_v18`, from entries of the stages before it. -/
theorem val_main_v18_apply (x1 : (⟨S6x12288, .f32⟩ : BufTy).Contents (Elt F)) (i : S6x12288x1.Idx) :
    val_main_v18 (F := F) x1 i = x1 (idx_main_v18 i) := by
  unfold val_main_v18
  exact broadcastInDim_apply _ bcast_S6x12288_S6x12288x1_0_1 x1 i (idx_main_v18 i) (fun a => match a with
    | ⟨0, _⟩ => by show (i 0).val = if (6 : Nat) = 1 then 0 else (i 0).val; rw [if_neg (by decide)]
    | ⟨1, _⟩ => by show (i 1).val = if (12288 : Nat) = 1 then 0 else (i 1).val; rw [if_neg (by decide)])

-- %17 = stablehlo.broadcast_in_dim %arg3, dims = [2] : (tensor<8192xf32>) -> tensor<1x1x8192xf32>
/-- The reference's stage `main_v19`, as a function of the arrays it reads. -/
def val_main_v19 (x3 : (⟨S8192, .f32⟩ : BufTy).Contents (Elt F)) : (⟨S1x1x8192, .f32⟩ : BufTy).Contents (Elt F) :=
  broadcastInDim S1x1x8192 ![2] bcast_S8192_S1x1x8192_2 (x3)
/-- The entry that an entry of `main_v19` is read from. -/
abbrev idx_main_v19 (i : S1x1x8192.Idx) : S8192.Idx := fun a => match a with
  | ⟨0, _⟩ => ⟨(i 2).val, (i 2).isLt⟩
/-- An entry of the reference's stage `main_v19`, from entries of the stages before it. -/
theorem val_main_v19_apply (x3 : (⟨S8192, .f32⟩ : BufTy).Contents (Elt F)) (i : S1x1x8192.Idx) :
    val_main_v19 (F := F) x3 i = x3 (idx_main_v19 i) := by
  unfold val_main_v19
  exact broadcastInDim_apply _ bcast_S8192_S1x1x8192_2 x3 i (idx_main_v19 i) (fun a => match a with
    | ⟨0, _⟩ => by show (i 2).val = if (8192 : Nat) = 1 then 0 else (i 2).val; rw [if_neg (by decide)])

-- %18 = stablehlo.broadcast_in_dim %16, dims = [0, 1, 2] : (tensor<6x12288x1xf32>) -> tensor<6x12288x8192xf32>
/-- The reference's stage `main_v20`, as a function of the arrays it reads. -/
def val_main_v20 (x1 : (⟨S6x12288, .f32⟩ : BufTy).Contents (Elt F)) : (⟨S6x12288x8192, .f32⟩ : BufTy).Contents (Elt F) :=
  broadcastInDim S6x12288x8192 ![0, 1, 2] bcast_S6x12288x1_S6x12288x8192_0_1_2 (val_main_v18 (F := F) x1)
/-- The entry that an entry of `main_v20` is read from. -/
abbrev idx_main_v20 (i : S6x12288x8192.Idx) : S6x12288x1.Idx := fun a => match a with
  | ⟨0, _⟩ => ⟨(i 0).val, (i 0).isLt⟩
  | ⟨1, _⟩ => ⟨(i 1).val, (i 1).isLt⟩
  | ⟨2, _⟩ => ⟨0, Nat.one_pos⟩
/-- An entry of the reference's stage `main_v20`, from entries of the stages before it. -/
theorem val_main_v20_apply (x1 : (⟨S6x12288, .f32⟩ : BufTy).Contents (Elt F)) (i : S6x12288x8192.Idx) :
    val_main_v20 (F := F) x1 i = val_main_v18 (F := F) x1 (idx_main_v20 i) := by
  unfold val_main_v20
  generalize val_main_v18 (F := F) x1 = y
  exact broadcastInDim_apply _ bcast_S6x12288x1_S6x12288x8192_0_1_2 y i (idx_main_v20 i) (fun a => match a with
    | ⟨0, _⟩ => by show (i 0).val = if (6 : Nat) = 1 then 0 else (i 0).val; rw [if_neg (by decide)]
    | ⟨1, _⟩ => by show (i 1).val = if (12288 : Nat) = 1 then 0 else (i 1).val; rw [if_neg (by decide)]
    | ⟨2, _⟩ => by show 0 = if (1 : Nat) = 1 then 0 else (i 2).val; rw [if_pos rfl])

-- %19 = stablehlo.broadcast_in_dim %17, dims = [0, 1, 2] : (tensor<1x1x8192xf32>) -> tensor<6x12288x8192xf32>
/-- The reference's stage `main_v21`, as a function of the arrays it reads. -/
def val_main_v21 (x3 : (⟨S8192, .f32⟩ : BufTy).Contents (Elt F)) : (⟨S6x12288x8192, .f32⟩ : BufTy).Contents (Elt F) :=
  broadcastInDim S6x12288x8192 ![0, 1, 2] bcast_S1x1x8192_S6x12288x8192_0_1_2 (val_main_v19 (F := F) x3)
/-- The entry that an entry of `main_v21` is read from. -/
abbrev idx_main_v21 (i : S6x12288x8192.Idx) : S1x1x8192.Idx := fun a => match a with
  | ⟨0, _⟩ => ⟨0, Nat.one_pos⟩
  | ⟨1, _⟩ => ⟨0, Nat.one_pos⟩
  | ⟨2, _⟩ => ⟨(i 2).val, (i 2).isLt⟩
/-- An entry of the reference's stage `main_v21`, from entries of the stages before it. -/
theorem val_main_v21_apply (x3 : (⟨S8192, .f32⟩ : BufTy).Contents (Elt F)) (i : S6x12288x8192.Idx) :
    val_main_v21 (F := F) x3 i = val_main_v19 (F := F) x3 (idx_main_v21 i) := by
  unfold val_main_v21
  generalize val_main_v19 (F := F) x3 = y
  exact broadcastInDim_apply _ bcast_S1x1x8192_S6x12288x8192_0_1_2 y i (idx_main_v21 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %20 = stablehlo.multiply %18, %19 : tensor<6x12288x8192xf32>
/-- The reference's stage `main_v22`, as a function of the arrays it reads. -/
def val_main_v22 (x1 : (⟨S6x12288, .f32⟩ : BufTy).Contents (Elt F)) (x3 : (⟨S8192, .f32⟩ : BufTy).Contents (Elt F)) : (⟨S6x12288x8192, .f32⟩ : BufTy).Contents (Elt F) :=
  mulf (val_main_v20 (F := F) x1) (val_main_v21 (F := F) x3)
/-- An entry of the reference's stage `main_v22`, from entries of the stages before it. -/
theorem val_main_v22_apply (x1 : (⟨S6x12288, .f32⟩ : BufTy).Contents (Elt F)) (x3 : (⟨S8192, .f32⟩ : BufTy).Contents (Elt F)) (i : S6x12288x8192.Idx) :
    val_main_v22 (F := F) x1 x3 i = FloatOps.mulf (val_main_v20 (F := F) x1 i) (val_main_v21 (F := F) x3 i) := rfl

-- %cst_1 = stablehlo.constant dense<2.000000e+00> : tensor<f32>
/-- The reference's stage `main_cst_1`, as a function of the arrays it reads. -/
def val_main_cst_1 : (⟨S_, .f32⟩ : BufTy).Contents (Elt F) :=
  constant S_ .f32 0x40000000#32
/-- An entry of the reference's stage `main_cst_1`, from entries of the stages before it. -/
theorem val_main_cst_1_apply (i : S_.Idx) :
    val_main_cst_1 (F := F) i = FloatOps.ofBits .f32 0x40000000#32 := rfl

-- %21 = stablehlo.broadcast_in_dim %cst_1, dims = [] : (tensor<f32>) -> tensor<6x12288x8192xf32>
/-- The reference's stage `main_v23`, as a function of the arrays it reads. -/
def val_main_v23 : (⟨S6x12288x8192, .f32⟩ : BufTy).Contents (Elt F) :=
  broadcastInDim S6x12288x8192 ![] bcast_S_S6x12288x8192 (val_main_cst_1 (F := F))
/-- The entry that an entry of `main_v23` is read from. -/
abbrev idx_main_v23 (i : S6x12288x8192.Idx) : S_.Idx := fun a => a.elim0
/-- An entry of the reference's stage `main_v23`, from entries of the stages before it. -/
theorem val_main_v23_apply (i : S6x12288x8192.Idx) :
    val_main_v23 (F := F) i = val_main_cst_1 (F := F) (idx_main_v23 i) := by
  unfold val_main_v23
  generalize val_main_cst_1 (F := F) = y
  exact broadcastInDim_apply _ bcast_S_S6x12288x8192 y i (idx_main_v23 i) (fun a => a.elim0)

-- %22 = stablehlo.multiply %21, %20 : tensor<6x12288x8192xf32>
/-- The reference's stage `main_v24`, as a function of the arrays it reads. -/
def val_main_v24 (x1 : (⟨S6x12288, .f32⟩ : BufTy).Contents (Elt F)) (x3 : (⟨S8192, .f32⟩ : BufTy).Contents (Elt F)) : (⟨S6x12288x8192, .f32⟩ : BufTy).Contents (Elt F) :=
  mulf (val_main_v23 (F := F)) (val_main_v22 (F := F) x1 x3)
/-- An entry of the reference's stage `main_v24`, from entries of the stages before it. -/
theorem val_main_v24_apply (x1 : (⟨S6x12288, .f32⟩ : BufTy).Contents (Elt F)) (x3 : (⟨S8192, .f32⟩ : BufTy).Contents (Elt F)) (i : S6x12288x8192.Idx) :
    val_main_v24 (F := F) x1 x3 i = FloatOps.mulf (val_main_v23 (F := F) i) (val_main_v22 (F := F) x1 x3 i) := rfl

-- %23 = stablehlo.multiply %22, %9 : tensor<6x12288x8192xf32>
/-- The reference's stage `main_v25`, as a function of the arrays it reads. -/
def val_main_v25 (x1 : (⟨S6x12288, .f32⟩ : BufTy).Contents (Elt F)) (x3 : (⟨S8192, .f32⟩ : BufTy).Contents (Elt F)) (r0 : (⟨S6x12288x16, .f32⟩ : BufTy).Contents (Elt F)) (r1 : (⟨S8192x16, .f32⟩ : BufTy).Contents (Elt F)) : (⟨S6x12288x8192, .f32⟩ : BufTy).Contents (Elt F) :=
  mulf (val_main_v24 (F := F) x1 x3) (val_main_v11 (F := F) r0 r1)
/-- An entry of the reference's stage `main_v25`, from entries of the stages before it. -/
theorem val_main_v25_apply (x1 : (⟨S6x12288, .f32⟩ : BufTy).Contents (Elt F)) (x3 : (⟨S8192, .f32⟩ : BufTy).Contents (Elt F)) (r0 : (⟨S6x12288x16, .f32⟩ : BufTy).Contents (Elt F)) (r1 : (⟨S8192x16, .f32⟩ : BufTy).Contents (Elt F)) (i : S6x12288x8192.Idx) :
    val_main_v25 (F := F) x1 x3 r0 r1 i = FloatOps.mulf (val_main_v24 (F := F) x1 x3 i) (val_main_v11 (F := F) r0 r1 i) := rfl

-- %24 = stablehlo.subtract %15, %23 : tensor<6x12288x8192xf32>
/-- The reference's stage `main_v26`, as a function of the arrays it reads. -/
def val_main_v26 (x1 : (⟨S6x12288, .f32⟩ : BufTy).Contents (Elt F)) (x3 : (⟨S8192, .f32⟩ : BufTy).Contents (Elt F)) (r0 : (⟨S6x12288x16, .f32⟩ : BufTy).Contents (Elt F)) (r1 : (⟨S8192x16, .f32⟩ : BufTy).Contents (Elt F)) : (⟨S6x12288x8192, .f32⟩ : BufTy).Contents (Elt F) :=
  subf (val_main_v17 (F := F) x1 x3 r0 r1) (val_main_v25 (F := F) x1 x3 r0 r1)
/-- An entry of the reference's stage `main_v26`, from entries of the stages before it. -/
theorem val_main_v26_apply (x1 : (⟨S6x12288, .f32⟩ : BufTy).Contents (Elt F)) (x3 : (⟨S8192, .f32⟩ : BufTy).Contents (Elt F)) (r0 : (⟨S6x12288x16, .f32⟩ : BufTy).Contents (Elt F)) (r1 : (⟨S8192x16, .f32⟩ : BufTy).Contents (Elt F)) (i : S6x12288x8192.Idx) :
    val_main_v26 (F := F) x1 x3 r0 r1 i = FloatOps.subf (val_main_v17 (F := F) x1 x3 r0 r1 i) (val_main_v25 (F := F) x1 x3 r0 r1 i) := rfl

-- %25 = stablehlo.broadcast_in_dim %arg4, dims = [0] : (tensor<6xi32>) -> tensor<6x1x1xi32>
/-- The reference's stage `main_v27`, as a function of the arrays it reads. -/
def val_main_v27 (x4 : (⟨S6, .i32⟩ : BufTy).Contents (Elt F)) : (⟨S6x1x1, .i32⟩ : BufTy).Contents (Elt F) :=
  broadcastInDim S6x1x1 ![0] bcast_S6_S6x1x1_0 (x4)
/-- The entry that an entry of `main_v27` is read from. -/
abbrev idx_main_v27 (i : S6x1x1.Idx) : S6.Idx := fun a => match a with
  | ⟨0, _⟩ => ⟨(i 0).val, (i 0).isLt⟩
/-- An entry of the reference's stage `main_v27`, from entries of the stages before it. -/
theorem val_main_v27_apply (x4 : (⟨S6, .i32⟩ : BufTy).Contents (Elt F)) (i : S6x1x1.Idx) :
    val_main_v27 (F := F) x4 i = x4 (idx_main_v27 i) := by
  unfold val_main_v27
  exact broadcastInDim_apply _ bcast_S6_S6x1x1_0 x4 i (idx_main_v27 i) (fun a => match a with
    | ⟨0, _⟩ => by show (i 0).val = if (6 : Nat) = 1 then 0 else (i 0).val; rw [if_neg (by decide)])

-- %26 = stablehlo.broadcast_in_dim %10, dims = [2] : (tensor<8192xi32>) -> tensor<1x1x8192xi32>
/-- The reference's stage `main_v28`, as a function of the arrays it reads. -/
def val_main_v28 : (⟨S1x1x8192, .i32⟩ : BufTy).Contents (Elt F) :=
  broadcastInDim S1x1x8192 ![2] bcast_S8192_S1x1x8192_2 (val_main_v12 (F := F))
/-- The entry that an entry of `main_v28` is read from. -/
abbrev idx_main_v28 (i : S1x1x8192.Idx) : S8192.Idx := fun a => match a with
  | ⟨0, _⟩ => ⟨(i 2).val, (i 2).isLt⟩
/-- An entry of the reference's stage `main_v28`, from entries of the stages before it. -/
theorem val_main_v28_apply (i : S1x1x8192.Idx) :
    val_main_v28 (F := F) i = val_main_v12 (F := F) (idx_main_v28 i) := by
  unfold val_main_v28
  generalize val_main_v12 (F := F) = y
  exact broadcastInDim_apply _ bcast_S8192_S1x1x8192_2 y i (idx_main_v28 i) (fun a => match a with
    | ⟨0, _⟩ => by show (i 2).val = if (8192 : Nat) = 1 then 0 else (i 2).val; rw [if_neg (by decide)])

-- %27 = stablehlo.broadcast_in_dim %26, dims = [0, 1, 2] : (tensor<1x1x8192xi32>) -> tensor<6x1x8192xi32>
/-- The reference's stage `main_v29`, as a function of the arrays it reads. -/
def val_main_v29 : (⟨S6x1x8192, .i32⟩ : BufTy).Contents (Elt F) :=
  broadcastInDim S6x1x8192 ![0, 1, 2] bcast_S1x1x8192_S6x1x8192_0_1_2 (val_main_v28 (F := F))
/-- The entry that an entry of `main_v29` is read from. -/
abbrev idx_main_v29 (i : S6x1x8192.Idx) : S1x1x8192.Idx := fun a => match a with
  | ⟨0, _⟩ => ⟨0, Nat.one_pos⟩
  | ⟨1, _⟩ => ⟨0, Nat.one_pos⟩
  | ⟨2, _⟩ => ⟨(i 2).val, (i 2).isLt⟩
/-- An entry of the reference's stage `main_v29`, from entries of the stages before it. -/
theorem val_main_v29_apply (i : S6x1x8192.Idx) :
    val_main_v29 (F := F) i = val_main_v28 (F := F) (idx_main_v29 i) := by
  unfold val_main_v29
  generalize val_main_v28 (F := F) = y
  exact broadcastInDim_apply _ bcast_S1x1x8192_S6x1x8192_0_1_2 y i (idx_main_v29 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %28 = stablehlo.broadcast_in_dim %25, dims = [0, 1, 2] : (tensor<6x1x1xi32>) -> tensor<6x1x8192xi32>
/-- The reference's stage `main_v30`, as a function of the arrays it reads. -/
def val_main_v30 (x4 : (⟨S6, .i32⟩ : BufTy).Contents (Elt F)) : (⟨S6x1x8192, .i32⟩ : BufTy).Contents (Elt F) :=
  broadcastInDim S6x1x8192 ![0, 1, 2] bcast_S6x1x1_S6x1x8192_0_1_2 (val_main_v27 (F := F) x4)
/-- The entry that an entry of `main_v30` is read from. -/
abbrev idx_main_v30 (i : S6x1x8192.Idx) : S6x1x1.Idx := fun a => match a with
  | ⟨0, _⟩ => ⟨(i 0).val, (i 0).isLt⟩
  | ⟨1, _⟩ => ⟨0, Nat.one_pos⟩
  | ⟨2, _⟩ => ⟨0, Nat.one_pos⟩
/-- An entry of the reference's stage `main_v30`, from entries of the stages before it. -/
theorem val_main_v30_apply (x4 : (⟨S6, .i32⟩ : BufTy).Contents (Elt F)) (i : S6x1x8192.Idx) :
    val_main_v30 (F := F) x4 i = val_main_v27 (F := F) x4 (idx_main_v30 i) := by
  unfold val_main_v30
  generalize val_main_v27 (F := F) x4 = y
  exact broadcastInDim_apply _ bcast_S6x1x1_S6x1x8192_0_1_2 y i (idx_main_v30 i) (fun a => match a with
    | ⟨0, _⟩ => by show (i 0).val = if (6 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %29 = stablehlo.compare LT, %27, %28, SIGNED : (tensor<6x1x8192xi32>, tensor<6x1x8192xi32>) -> tensor<6x1x8192xi1>
/-- The reference's stage `main_v31`, as a function of the arrays it reads. -/
def val_main_v31 (x4 : (⟨S6, .i32⟩ : BufTy).Contents (Elt F)) : (⟨S6x1x8192, .i1⟩ : BufTy).Contents (Elt F) :=
  cmpi .slt (val_main_v29 (F := F)) (val_main_v30 (F := F) x4)
/-- An entry of the reference's stage `main_v31`, from entries of the stages before it. -/
theorem val_main_v31_apply (x4 : (⟨S6, .i32⟩ : BufTy).Contents (Elt F)) (i : S6x1x8192.Idx) :
    val_main_v31 (F := F) x4 i = IntOp.cmpi .slt (val_main_v29 (F := F) i) (val_main_v30 (F := F) x4 i) := rfl

-- %cst_2 = stablehlo.constant dense<0x7F800000> : tensor<f32>
/-- The reference's stage `main_cst_2`, as a function of the arrays it reads. -/
def val_main_cst_2 : (⟨S_, .f32⟩ : BufTy).Contents (Elt F) :=
  constant S_ .f32 0x7F800000#32
/-- An entry of the reference's stage `main_cst_2`, from entries of the stages before it. -/
theorem val_main_cst_2_apply (i : S_.Idx) :
    val_main_cst_2 (F := F) i = FloatOps.ofBits .f32 0x7F800000#32 := rfl

-- @_where's %0 = stablehlo.convert %arg2 : tensor<f32>, in %30 = func.call @_where(…) (record main_call0)
/-- The reference's stage `main_call0_v0`, as a function of the arrays it reads. -/
def val_main_call0_v0 : (⟨S_, .f32⟩ : BufTy).Contents (Elt F) :=
  id (val_main_cst_2 (F := F))
/-- An entry of the reference's stage `main_call0_v0`, from entries of the stages before it. -/
theorem val_main_call0_v0_apply (i : S_.Idx) :
    val_main_call0_v0 (F := F) i = (val_main_cst_2 (F := F) i) := rfl

-- @_where's %1 = stablehlo.broadcast_in_dim %arg0, dims = [0, 1, 2] : (tensor<6x1x8192xi1>) -> tensor<6x12288x8192xi1>, in %30 = func.call @_where(…) (record main_call0)
/-- The reference's stage `main_call0_v1`, as a function of the arrays it reads. -/
def val_main_call0_v1 (x4 : (⟨S6, .i32⟩ : BufTy).Contents (Elt F)) : (⟨S6x12288x8192, .i1⟩ : BufTy).Contents (Elt F) :=
  broadcastInDim S6x12288x8192 ![0, 1, 2] bcast_S6x1x8192_S6x12288x8192_0_1_2 (val_main_v31 (F := F) x4)
/-- The entry that an entry of `main_call0_v1` is read from. -/
abbrev idx_main_call0_v1 (i : S6x12288x8192.Idx) : S6x1x8192.Idx := fun a => match a with
  | ⟨0, _⟩ => ⟨(i 0).val, (i 0).isLt⟩
  | ⟨1, _⟩ => ⟨0, Nat.one_pos⟩
  | ⟨2, _⟩ => ⟨(i 2).val, (i 2).isLt⟩
/-- An entry of the reference's stage `main_call0_v1`, from entries of the stages before it. -/
theorem val_main_call0_v1_apply (x4 : (⟨S6, .i32⟩ : BufTy).Contents (Elt F)) (i : S6x12288x8192.Idx) :
    val_main_call0_v1 (F := F) x4 i = val_main_v31 (F := F) x4 (idx_main_call0_v1 i) := by
  unfold val_main_call0_v1
  generalize val_main_v31 (F := F) x4 = y
  exact broadcastInDim_apply _ bcast_S6x1x8192_S6x12288x8192_0_1_2 y i (idx_main_call0_v1 i) (fun a => match a with
    | ⟨0, _⟩ => by show (i 0).val = if (6 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

-- @_where's %2 = stablehlo.broadcast_in_dim %0, dims = [] : (tensor<f32>) -> tensor<6x12288x8192xf32>, in %30 = func.call @_where(…) (record main_call0)
/-- The reference's stage `main_call0_v2`, as a function of the arrays it reads. -/
def val_main_call0_v2 : (⟨S6x12288x8192, .f32⟩ : BufTy).Contents (Elt F) :=
  broadcastInDim S6x12288x8192 ![] bcast_S_S6x12288x8192 (val_main_call0_v0 (F := F))
/-- The entry that an entry of `main_call0_v2` is read from. -/
abbrev idx_main_call0_v2 (i : S6x12288x8192.Idx) : S_.Idx := fun a => a.elim0
/-- An entry of the reference's stage `main_call0_v2`, from entries of the stages before it. -/
theorem val_main_call0_v2_apply (i : S6x12288x8192.Idx) :
    val_main_call0_v2 (F := F) i = val_main_call0_v0 (F := F) (idx_main_call0_v2 i) := by
  unfold val_main_call0_v2
  generalize val_main_call0_v0 (F := F) = y
  exact broadcastInDim_apply _ bcast_S_S6x12288x8192 y i (idx_main_call0_v2 i) (fun a => a.elim0)

-- %30 = func.call @_where(…) (record main_call0) result 0: @_where's %3 = stablehlo.select %1, %arg1, %2 : tensor<6x12288x8192xi1>, tensor<6x12288x8192xf32>
/-- The reference's stage `main_v32`, as a function of the arrays it reads. -/
def val_main_v32 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288x8192, .f32⟩ : BufTy).Contents (Elt F) :=
  select (val_main_call0_v1 (F := F) x4) (val_main_v26 (F := F) x1 x3 r0 r1) (val_main_call0_v2 (F := F))
/-- An entry of the reference's stage `main_v32`, from entries of the stages before it. -/
theorem val_main_v32_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288x8192.Idx) :
    val_main_v32 (F := F) x1 x3 x4 r0 r1 i = Scalar.select (val_main_call0_v1 (F := F) x4 i) (val_main_v26 (F := F) x1 x3 r0 r1 i) (val_main_call0_v2 (F := F) i) := rfl

-- %31 = stablehlo.negate %30 : tensor<6x12288x8192xf32>
/-- The reference's stage `main_v33`, as a function of the arrays it reads. -/
def val_main_v33 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288x8192, .f32⟩ : BufTy).Contents (Elt F) :=
  Host.negf (val_main_v32 (F := F) x1 x3 x4 r0 r1)
/-- An entry of the reference's stage `main_v33`, from entries of the stages before it. -/
theorem val_main_v33_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288x8192.Idx) :
    val_main_v33 (F := F) x1 x3 x4 r0 r1 i = FloatOps.hostNegf (val_main_v32 (F := F) x1 x3 x4 r0 r1 i) := rfl

-- %values, %indices = chlo.top_k(%31, k = 2) : tensor<6x12288x8192xf32> -> (tensor<6x12288x2xf32>, tensor<6x12288x2xi32>)
/-- The reference's stage `main_values`, as a function of the arrays it reads. -/
def val_main_values (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288x2, .f32⟩ : BufTy).Contents (Elt F) :=
  (Host.topK S6x12288x2 2 (FloatOps.cmpfTotal .gt) (val_main_v33 (F := F) x1 x3 x4 r0 r1) sliceFits_S6x12288x8192_S6x12288x2).1

-- %values, %indices = chlo.top_k(%31, k = 2) : tensor<6x12288x8192xf32> -> (tensor<6x12288x2xf32>, tensor<6x12288x2xi32>)
/-- The reference's stage `main_indices`, as a function of the arrays it reads. -/
def val_main_indices (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288x2, .i32⟩ : BufTy).Contents (Elt F) :=
  (Host.topK S6x12288x2 2 (FloatOps.cmpfTotal .gt) (val_main_v33 (F := F) x1 x3 x4 r0 r1) sliceFits_S6x12288x8192_S6x12288x2).2

-- %32 = stablehlo.slice %values [0:6, 0:12288, 0:1] : (tensor<6x12288x2xf32>) -> tensor<6x12288x1xf32>
/-- The reference's stage `main_v34`, as a function of the arrays it reads. -/
def val_main_v34 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288x1, .f32⟩ : BufTy).Contents (Elt F) :=
  extractStridedSlice S6x12288x1 ![0, 0, 0] (val_main_values (F := F) x1 x3 x4 r0 r1) slices_S6x12288x2_S6x12288x1_0_0_0
set_option backward.proofsInPublic true in
/-- The entry that an entry of `main_v34` is read from. -/
abbrev idx_main_v34 (i : S6x12288x1.Idx) : S6x12288x2.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
/-- An entry of the reference's stage `main_v34`, from entries of the stages before it. -/
theorem val_main_v34_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288x1.Idx) :
    val_main_v34 (F := F) x1 x3 x4 r0 r1 i = val_main_values (F := F) x1 x3 x4 r0 r1 (idx_main_v34 i) := by
  unfold val_main_v34
  generalize val_main_values (F := F) x1 x3 x4 r0 r1 = y
  exact extractStridedSlice_apply ![0, 0, 0] y slices_S6x12288x2_S6x12288x1_0_0_0 i (idx_main_v34 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %33 = stablehlo.reshape %32 : (tensor<6x12288x1xf32>) -> tensor<6x12288xf32>
/-- The reference's stage `main_v35`, as a function of the arrays it reads. -/
def val_main_v35 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288, .f32⟩ : BufTy).Contents (Elt F) :=
  shapeCast _ (val_main_v34 (F := F) x1 x3 x4 r0 r1) shapeCasts_S6x12288x1_S6x12288
set_option backward.proofsInPublic true in
/-- The entry that an entry of `main_v35` is read from. -/
abbrev idx_main_v35 (i : S6x12288.Idx) : S6x12288x1.Idx := fun a => match a with
  | ⟨0, _⟩ => ⟨((i 0).val * 12288 + (i 1).val) / 12288, by have h0 : (i 0).val < 6 := (i 0).isLt; have h1 : (i 1).val < 12288 := (i 1).isLt; show ((i 0).val * 12288 + (i 1).val) / 12288 < 6; omega⟩
  | ⟨1, _⟩ => ⟨((i 0).val * 12288 + (i 1).val) / 1 % 12288, by have h0 : (i 0).val < 6 := (i 0).isLt; have h1 : (i 1).val < 12288 := (i 1).isLt; show ((i 0).val * 12288 + (i 1).val) / 1 % 12288 < 12288; omega⟩
  | ⟨2, _⟩ => ⟨0, Nat.one_pos⟩
/-- An entry of the reference's stage `main_v35`, from entries of the stages before it. -/
theorem val_main_v35_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288.Idx) :
    val_main_v35 (F := F) x1 x3 x4 r0 r1 i = val_main_v34 (F := F) x1 x3 x4 r0 r1 (idx_main_v35 i) := by
  unfold val_main_v35
  generalize val_main_v34 (F := F) x1 x3 x4 r0 r1 = y
  exact shapeCast_apply y shapeCasts_S6x12288x1_S6x12288 i (idx_main_v35 i)
    (by rewrite [Shape.rowMajor_val_three, Shape.rowMajor_val_two]; have h0 : (i 0).val < 6 := (i 0).isLt; have h1 : (i 1).val < 12288 := (i 1).isLt; show (((i 0).val * 12288 + (i 1).val) / 12288 * 12288 + ((i 0).val * 12288 + (i 1).val) / 1 % 12288) * 1 + 0 = (i 0).val * 12288 + (i 1).val; omega)

-- %34 = stablehlo.negate %33 : tensor<6x12288xf32>
/-- The reference's stage `main_v36`, as a function of the arrays it reads. -/
def val_main_v36 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288, .f32⟩ : BufTy).Contents (Elt F) :=
  Host.negf (val_main_v35 (F := F) x1 x3 x4 r0 r1)
/-- An entry of the reference's stage `main_v36`, from entries of the stages before it. -/
theorem val_main_v36_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288.Idx) :
    val_main_v36 (F := F) x1 x3 x4 r0 r1 i = FloatOps.hostNegf (val_main_v35 (F := F) x1 x3 x4 r0 r1 i) := rfl

-- %35 = stablehlo.slice %values [0:6, 0:12288, 1:2] : (tensor<6x12288x2xf32>) -> tensor<6x12288x1xf32>
/-- The reference's stage `main_v37`, as a function of the arrays it reads. -/
def val_main_v37 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288x1, .f32⟩ : BufTy).Contents (Elt F) :=
  extractStridedSlice S6x12288x1 ![0, 0, 1] (val_main_values (F := F) x1 x3 x4 r0 r1) slices_S6x12288x2_S6x12288x1_0_0_1
set_option backward.proofsInPublic true in
/-- The entry that an entry of `main_v37` is read from. -/
abbrev idx_main_v37 (i : S6x12288x1.Idx) : S6x12288x2.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
/-- An entry of the reference's stage `main_v37`, from entries of the stages before it. -/
theorem val_main_v37_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288x1.Idx) :
    val_main_v37 (F := F) x1 x3 x4 r0 r1 i = val_main_values (F := F) x1 x3 x4 r0 r1 (idx_main_v37 i) := by
  unfold val_main_v37
  generalize val_main_values (F := F) x1 x3 x4 r0 r1 = y
  exact extractStridedSlice_apply ![0, 0, 1] y slices_S6x12288x2_S6x12288x1_0_0_1 i (idx_main_v37 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

-- %36 = stablehlo.reshape %35 : (tensor<6x12288x1xf32>) -> tensor<6x12288xf32>
/-- The reference's stage `main_v38`, as a function of the arrays it reads. -/
def val_main_v38 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288, .f32⟩ : BufTy).Contents (Elt F) :=
  shapeCast _ (val_main_v37 (F := F) x1 x3 x4 r0 r1) shapeCasts_S6x12288x1_S6x12288
set_option backward.proofsInPublic true in
/-- The entry that an entry of `main_v38` is read from. -/
abbrev idx_main_v38 (i : S6x12288.Idx) : S6x12288x1.Idx := fun a => match a with
  | ⟨0, _⟩ => ⟨((i 0).val * 12288 + (i 1).val) / 12288, by have h0 : (i 0).val < 6 := (i 0).isLt; have h1 : (i 1).val < 12288 := (i 1).isLt; show ((i 0).val * 12288 + (i 1).val) / 12288 < 6; omega⟩
  | ⟨1, _⟩ => ⟨((i 0).val * 12288 + (i 1).val) / 1 % 12288, by have h0 : (i 0).val < 6 := (i 0).isLt; have h1 : (i 1).val < 12288 := (i 1).isLt; show ((i 0).val * 12288 + (i 1).val) / 1 % 12288 < 12288; omega⟩
  | ⟨2, _⟩ => ⟨0, Nat.one_pos⟩
/-- An entry of the reference's stage `main_v38`, from entries of the stages before it. -/
theorem val_main_v38_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288.Idx) :
    val_main_v38 (F := F) x1 x3 x4 r0 r1 i = val_main_v37 (F := F) x1 x3 x4 r0 r1 (idx_main_v38 i) := by
  unfold val_main_v38
  generalize val_main_v37 (F := F) x1 x3 x4 r0 r1 = y
  exact shapeCast_apply y shapeCasts_S6x12288x1_S6x12288 i (idx_main_v38 i)
    (by rewrite [Shape.rowMajor_val_three, Shape.rowMajor_val_two]; have h0 : (i 0).val < 6 := (i 0).isLt; have h1 : (i 1).val < 12288 := (i 1).isLt; show (((i 0).val * 12288 + (i 1).val) / 12288 * 12288 + ((i 0).val * 12288 + (i 1).val) / 1 % 12288) * 1 + 0 = (i 0).val * 12288 + (i 1).val; omega)

-- %37 = stablehlo.negate %36 : tensor<6x12288xf32>
/-- The reference's stage `main_v39`, as a function of the arrays it reads. -/
def val_main_v39 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288, .f32⟩ : BufTy).Contents (Elt F) :=
  Host.negf (val_main_v38 (F := F) x1 x3 x4 r0 r1)
/-- An entry of the reference's stage `main_v39`, from entries of the stages before it. -/
theorem val_main_v39_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288.Idx) :
    val_main_v39 (F := F) x1 x3 x4 r0 r1 i = FloatOps.hostNegf (val_main_v38 (F := F) x1 x3 x4 r0 r1 i) := rfl

-- %38 = stablehlo.subtract %37, %34 : tensor<6x12288xf32>
/-- The reference's stage `main_v40`, as a function of the arrays it reads. -/
def val_main_v40 (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) : (⟨S6x12288, .f32⟩ : BufTy).Contents (Elt F) :=
  subf (val_main_v39 (F := F) x1 x3 x4 r0 r1) (val_main_v36 (F := F) x1 x3 x4 r0 r1)
/-- An entry of the reference's stage `main_v40`, from entries of the stages before it. -/
theorem val_main_v40_apply (x1 : (⟨S6x12288, .f32⟩ : BufTy).Contents (Elt F)) (x3 : (⟨S8192, .f32⟩ : BufTy).Contents (Elt F)) (x4 : (⟨S6, .i32⟩ : BufTy).Contents (Elt F)) (r0 : (⟨S6x12288x16, .f32⟩ : BufTy).Contents (Elt F)) (r1 : (⟨S8192x16, .f32⟩ : BufTy).Contents (Elt F)) (i : S6x12288.Idx) :
    val_main_v40 (F := F) x1 x3 x4 r0 r1 i = FloatOps.subf (val_main_v39 (F := F) x1 x3 x4 r0 r1 i) (val_main_v36 (F := F) x1 x3 x4 r0 r1 i) := rfl

/-- The term the Run module states for `main_v36` over any contents `V0` is the stage. -/
theorem val_main_v36_eq (V0 : Valuation τ sig (Elt F)) :
    Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (V0 (Proc.devRef .tc main_arg4)))))) (subf (addf (broadcastInDim S6x12288x8192 ![0, 1, 2] bcast_S6x12288x1_S6x12288x8192_0_1_2 (broadcastInDim S6x12288x1 ![0, 1] bcast_S6x12288_S6x12288x1_0_1 (mulf (mulf (V0 (Proc.devRef .tc main_arg1)) (V0 (Proc.devRef .tc main_arg1))) (Host.reduceAdd (mulf (V0 (Proc.devRef .tc main_v2_0)) (V0 (Proc.devRef .tc main_v2_0))) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (V0 (Proc.devRef .tc main_arg3)) (V0 (Proc.devRef .tc main_arg3))) (Host.reduceAdd (mulf (V0 (Proc.devRef .tc main_v2_1)) (V0 (Proc.devRef .tc main_v2_1))) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (V0 (Proc.devRef .tc main_arg1)))) (broadcastInDim S6x12288x8192 ![0, 1, 2] bcast_S1x1x8192_S6x12288x8192_0_1_2 (broadcastInDim S1x1x8192 ![2] bcast_S8192_S1x1x8192_2 (V0 (Proc.devRef .tc main_arg3)))))) (Host.dotGeneral dot_S6x12288x16_S8192x16_S6x12288x8192_2_1_01_0_n_n none (V0 (Proc.devRef .tc main_v2_0)) (V0 (Proc.devRef .tc main_v2_1))))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288)
      = val_main_v36 (F := F) (V0 (Proc.devRef .tc main_arg1)) (V0 (Proc.devRef .tc main_arg3)) (V0 (Proc.devRef .tc main_arg4)) (V0 (Proc.devRef .tc main_v2_0)) (V0 (Proc.devRef .tc main_v2_1)) := rfl

/-- The term the Run module states for `main_v40` over any contents `V0` is the stage. -/
theorem val_main_v40_eq (V0 : Valuation τ sig (Elt F)) :
    subf (Host.negf (shapeCast _ (extractStridedSlice S6x12288x1 ![0, 0, 1] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (V0 (Proc.devRef .tc main_arg4)))))) (subf (addf (broadcastInDim S6x12288x8192 ![0, 1, 2] bcast_S6x12288x1_S6x12288x8192_0_1_2 (broadcastInDim S6x12288x1 ![0, 1] bcast_S6x12288_S6x12288x1_0_1 (mulf (mulf (V0 (Proc.devRef .tc main_arg1)) (V0 (Proc.devRef .tc main_arg1))) (Host.reduceAdd (mulf (V0 (Proc.devRef .tc main_v2_0)) (V0 (Proc.devRef .tc main_v2_0))) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (V0 (Proc.devRef .tc main_arg3)) (V0 (Proc.devRef .tc main_arg3))) (Host.reduceAdd (mulf (V0 (Proc.devRef .tc main_v2_1)) (V0 (Proc.devRef .tc main_v2_1))) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (V0 (Proc.devRef .tc main_arg1)))) (broadcastInDim S6x12288x8192 ![0, 1, 2] bcast_S1x1x8192_S6x12288x8192_0_1_2 (broadcastInDim S1x1x8192 ![2] bcast_S8192_S1x1x8192_2 (V0 (Proc.devRef .tc main_arg3)))))) (Host.dotGeneral dot_S6x12288x16_S8192x16_S6x12288x8192_2_1_01_0_n_n none (V0 (Proc.devRef .tc main_v2_0)) (V0 (Proc.devRef .tc main_v2_1))))) (broadcastInDim S6x12288x8192 ![] bcast_S_S6x12288x8192 (id (constant S_ .f32 0x7F800000#32))))) sliceFits_S6x12288x8192_S6x12288x2).1) slices_S6x12288x2_S6x12288x1_0_0_1) shapeCasts_S6x12288x1_S6x12288)) (Host.negf (shapeCast _ (extractStridedSlice S6x12288x1 ![0, 0, 0] ((Host.topK S6x12288x2 2 (FloatOps.cmpfTotal .gt) (Host.negf (select (broadcastInDim S6x12288x8192 ![0, 1, 2] bcast_S6x1x8192_S6x12288x8192_0_1_2 (cmpi .slt (broadcastInDim S6x1x8192 ![0, 1, 2] bcast_S1x1x8192_S6x1x8192_0_1_2 (broadcastInDim S1x1x8192 ![2] bcast_S8192_S1x1x8192_2 (iotaInDim S8192 32 0))) (broadcastInDim S6x1x8192 ![0, 1, 2] bcast_S6x1x1_S6x1x8192_0_1_2 (broadcastInDim S6x1x1 ![0] bcast_S6_S6x1x1_0 (V0 (Proc.devRef .tc main_arg4)))))) (subf (addf (broadcastInDim S6x12288x8192 ![0, 1, 2] bcast_S6x12288x1_S6x12288x8192_0_1_2 (broadcastInDim S6x12288x1 ![0, 1] bcast_S6x12288_S6x12288x1_0_1 (mulf (mulf (V0 (Proc.devRef .tc main_arg1)) (V0 (Proc.devRef .tc main_arg1))) (Host.reduceAdd (mulf (V0 (Proc.devRef .tc main_v2_0)) (V0 (Proc.devRef .tc main_v2_0))) (constant S_ .f32 0x00000000#32) reducesTo_S6x12288x16_S6x12288_d2 h_S_)))) (broadcastInDim S6x12288x8192 ![0, 1, 2] bcast_S1x1x8192_S6x12288x8192_0_1_2 (broadcastInDim S1x1x8192 ![2] bcast_S8192_S1x1x8192_2 (mulf (mulf (V0 (Proc.devRef .tc main_arg3)) (V0 (Proc.devRef .tc main_arg3))) (Host.reduceAdd (mulf (V0 (Proc.devRef .tc main_v2_1)) (V0 (Proc.devRef .tc main_v2_1))) (constant S_ .f32 0x00000000#32) reducesTo_S8192x16_S8192_d1 h_S_))))) (mulf (mulf (broadcastInDim S6x12288x8192 ![] bcast_S_S6x12288x8192 (constant S_ .f32 0x40000000#32)) (mulf (broadcastInDim S6x12288x8192 ![0, 1, 2] bcast_S6x12288x1_S6x12288x8192_0_1_2 (broadcastInDim S6x12288x1 ![0, 1] bcast_S6x12288_S6x12288x1_0_1 (V0 (Proc.devRef .tc main_arg1)))) (broadcastInDim S6x12288x8192 ![0, 1, 2] bcast_S1x1x8192_S6x12288x8192_0_1_2 (broadcastInDim S1x1x8192 ![2] bcast_S8192_S1x1x8192_2 (V0 (Proc.devRef .tc main_arg3)))))) (Host.dotGeneral dot_S6x12288x16_S8192x16_S6x12288x8192_2_1_01_0_n_n none (V0 (Proc.devRef .tc main_v2_0)) (V0 (Proc.devRef .tc main_v2_1))))) (broadcastInDim S6x12288x8192 ![] bcast_S_S6x12288x8192 (id (constant S_ .f32 0x7F800000#32))))) sliceFits_S6x12288x8192_S6x12288x2).1) slices_S6x12288x2_S6x12288x1_0_0_0) shapeCasts_S6x12288x1_S6x12288))
      = val_main_v40 (F := F) (V0 (Proc.devRef .tc main_arg1)) (V0 (Proc.devRef .tc main_arg3)) (V0 (Proc.devRef .tc main_arg4)) (V0 (Proc.devRef .tc main_v2_0)) (V0 (Proc.devRef .tc main_v2_1)) := rfl

end Cert.ReferenceIdeal.Read

end
-- ==== Proof.Top2.lean ====
/- The two smallest values that a function takes on a finite set of indices: `least` and `second`, the second counted with repetition. How
   they change when one index joins the set, how those of two disjoint sets make those of the union, and what they are on a sorted list.
   No program is mentioned here. -/
module

public import Mathlib.Data.EReal.Basic
public import Mathlib.Data.Finset.Lattice.Fold
public import Mathlib.Data.Finset.Prod
public import Mathlib.Data.Fintype.EquivFin

@[expose] public section

namespace Cert.Proof.Top2

variable {ι : Type} [DecidableEq ι]

/-- The smallest value of `f` on `s`, `⊤` if `s` is empty. -/
noncomputable def least (s : Finset ι) (f : ι → EReal) : EReal := s.inf f

/-- The second smallest value of `f` on `s`, `⊤` if `s` has no two indices: the smallest of the larger values of two different indices. -/
noncomputable def second (s : Finset ι) (f : ι → EReal) : EReal := s.offDiag.inf fun p => max (f p.1) (f p.2)

/-- The least of no values is `⊤`. -/
theorem least_empty (f : ι → EReal) : least ∅ f = ⊤ := by simp [least]
/-- The second least of no values is `⊤`. -/
theorem second_empty (f : ι → EReal) : second ∅ f = ⊤ := by simp [second]

/-- A bound below `second` bounds the larger of every two values. -/
theorem le_second {s : Finset ι} {f : ι → EReal} {a : EReal} :
    a ≤ second s f ↔ ∀ i ∈ s, ∀ j ∈ s, i ≠ j → a ≤ max (f i) (f j) := by
  simp only [second, Finset.le_inf_iff, Finset.mem_offDiag]
  exact ⟨fun h i hi j hj hij => h (i, j) ⟨hi, hj, hij⟩, fun h p hp => h _ hp.1 _ hp.2.1 hp.2.2⟩

/-- A bound is below the least value exactly when it is below every value. -/
theorem le_least {s : Finset ι} {f : ι → EReal} {a : EReal} : a ≤ least s f ↔ ∀ i ∈ s, a ≤ f i := Finset.le_inf_iff

/-- A bound of the larger of the two smallest values, of which each may be taken on its own set. -/
theorem le_max_least {s t : Finset ι} {f : ι → EReal} {a : EReal} :
    a ≤ max (least s f) (least t f) ↔ ∀ i ∈ s, ∀ j ∈ t, a ≤ max (f i) (f j) := by
  constructor
  · intro h i hi j hj
    exact h.trans (max_le_max (Finset.inf_le hi) (Finset.inf_le hj))
  · intro h
    by_cases hs : a ≤ least s f
    · exact hs.trans (le_max_left _ _)
    · obtain ⟨i, hi, hai⟩ : ∃ i ∈ s, ¬ a ≤ f i := by
        by_contra hc
        exact hs (le_least.2 fun i hi => by by_contra h'; exact hc ⟨i, hi, h'⟩)
      refine (le_least.2 fun j hj => ?_).trans (le_max_right _ _)
      exact (le_max_iff.1 (h i hi j hj)).resolve_left hai

/-- The smallest value on a union. -/
theorem least_union (s t : Finset ι) (f : ι → EReal) : least (s ∪ t) f = min (least s f) (least t f) := Finset.inf_union

/-- The second smallest value on a union of disjoint sets, from the two smallest of each. -/
theorem second_union {s t : Finset ι} (h : Disjoint s t) (f : ι → EReal) :
    second (s ∪ t) f = min (max (least s f) (least t f)) (min (second s f) (second t f)) := by
  refine eq_of_forall_le_iff fun a => ?_
  rw [le_min_iff, le_min_iff, le_max_least, le_second, le_second, le_second]
  have hne : ∀ i ∈ s, ∀ j ∈ t, i ≠ j := fun i hi j hj e => Finset.disjoint_left.1 h hi (e ▸ hj)
  constructor
  · intro H
    exact ⟨fun i hi j hj => H i (Finset.mem_union_left _ hi) j (Finset.mem_union_right _ hj) (hne i hi j hj),
      fun i hi j hj => H i (Finset.mem_union_left _ hi) j (Finset.mem_union_left _ hj),
      fun i hi j hj => H i (Finset.mem_union_right _ hi) j (Finset.mem_union_right _ hj)⟩
  · rintro ⟨hx, hs, ht⟩ i hi j hj hij
    rcases Finset.mem_union.1 hi with hi | hi <;> rcases Finset.mem_union.1 hj with hj | hj
    · exact hs i hi j hj hij
    · exact hx i hi j hj
    · rw [max_comm]; exact hx j hj i hi
    · exact ht i hi j hj hij

/-- The smallest value after one more index. -/
theorem least_insert (s : Finset ι) (a : ι) (f : ι → EReal) : least (insert a s) f = min (least s f) (f a) := by
  rw [least, Finset.inf_insert, min_comm]; rfl

/-- The second smallest value after one more index: what is larger of the new value and the smallest so far, if it is smaller. -/
theorem second_insert {s : Finset ι} {a : ι} (h : a ∉ s) (f : ι → EReal) :
    second (insert a s) f = min (second s f) (max (least s f) (f a)) := by
  have hd : Disjoint s {a} := Finset.disjoint_singleton_right.2 h
  have e1 : least {a} f = f a := by simp [least]
  have e2 : second {a} f = ⊤ := by simp [second]
  rw [Finset.insert_eq, Finset.union_comm, second_union hd, e1, e2, min_top_right, min_comm]

/-- Indices at which the function is `⊤` change neither of the two. -/
theorem two_of_top {s t : Finset ι} {f : ι → EReal} (hst : s ⊆ t) (h : ∀ i ∈ t, i ∉ s → f i = ⊤) :
    least t f = least s f ∧ second t f = second s f := by
  have hd : Disjoint s (t \ s) := Finset.disjoint_sdiff
  have e : t = s ∪ (t \ s) := (Finset.union_sdiff_of_subset hst).symm
  have h' : ∀ i ∈ t \ s, f i = ⊤ := fun i hi => h i (Finset.mem_sdiff.1 hi).1 (Finset.mem_sdiff.1 hi).2
  have e1 : least (t \ s) f = ⊤ := top_le_iff.1 (le_least.2 fun i hi => (h' i hi).ge)
  have e2 : second (t \ s) f = ⊤ := top_le_iff.1 (le_second.2 fun i hi j _ _ => by rw [h' i hi]; exact le_max_left _ _)
  constructor
  · conv_lhs => rw [e]
    rw [least_union, e1, min_top_right]
  · conv_lhs => rw [e]
    rw [second_union hd, e1, e2, max_top_right, min_top_right, min_top_left]

/-- Functions that agree on the set have the same two smallest values. -/
theorem two_congr {s : Finset ι} {f g : ι → EReal} (h : ∀ i ∈ s, f i = g i) : least s f = least s g ∧ second s f = second s g := by
  refine ⟨Finset.inf_congr rfl h, Finset.inf_congr rfl fun p hp => ?_⟩
  obtain ⟨h1, h2, _⟩ := Finset.mem_offDiag.1 hp
  rw [h p.1 h1, h p.2 h2]

/-- On the first `n` naturals, listed by `σ` so that the values never decrease, the two smallest values are the first two listed. -/
theorem two_of_sorted {n : Nat} {f : Nat → EReal} {σ : Fin n → Fin n} (hσ : Function.Surjective σ)
    (hm : ∀ i j, i < j → f (σ i) ≤ f (σ j)) (i0 i1 : Fin n) (h0 : i0.val = 0) (h1 : i1.val = 1) :
    least (Finset.range n) f = f (σ i0) ∧ second (Finset.range n) f = f (σ i1) := by
  have hm' : ∀ i j, i ≤ j → f (σ i) ≤ f (σ j) := fun i j h => by
    rcases Nat.lt_or_eq_of_le (Fin.le_def.1 h) with h | h
    · exact hm i j h
    · rw [Fin.ext h]
  have hinj : Function.Injective σ := Finite.injective_iff_surjective.2 hσ
  have at' : ∀ j ∈ Finset.range n, ∃ i, (σ i).val = j := fun j hj =>
    (hσ ⟨j, Finset.mem_range.1 hj⟩).imp fun i hi => by rw [hi]
  have mem : ∀ i, (σ i).val ∈ Finset.range n := fun i => Finset.mem_range.2 (σ i).isLt
  constructor
  · refine le_antisymm (Finset.inf_le (mem i0)) (le_least.2 fun j hj => ?_)
    obtain ⟨i, rfl⟩ := at' j hj
    exact hm' _ _ (Fin.le_def.2 (by omega))
  · refine le_antisymm ?_ (le_second.2 fun a ha b hb hab => ?_)
    · have hne : (σ i0).val ≠ (σ i1).val := fun e => by
        have := congrArg Fin.val (hinj (Fin.ext e))
        omega
      have : second (Finset.range n) f ≤ max (f (σ i0)) (f (σ i1)) :=
        Finset.inf_le (f := fun p : Nat × Nat => max (f p.1) (f p.2)) (b := ((σ i0).val, (σ i1).val))
          (Finset.mem_offDiag.2 ⟨mem i0, mem i1, hne⟩)
      rwa [max_eq_right (hm' i0 i1 (Fin.le_def.2 (by omega)))] at this
    · obtain ⟨i, rfl⟩ := at' a ha
      obtain ⟨j, rfl⟩ := at' b hb
      have hij : i ≠ j := fun e => hab (by rw [e])
      have hv : i.val ≠ j.val := fun e => hij (Fin.ext e)
      rcases Nat.eq_zero_or_pos i.val with hi | hi
      · exact (hm' i1 j (Fin.le_def.2 (by omega))).trans (le_max_right _ _)
      · exact (hm' i1 i (Fin.le_def.2 (by omega))).trans (le_max_left _ _)

/-! ### Indices by their remainder -/

/-- The naturals below `n` whose remainder by `p` is `r`. -/
def rem (p r n : Nat) : Finset Nat := (Finset.range n).filter fun j => j % p = r

/-- Eight more indices bring exactly one of remainder `r` by 8. -/
theorem rem_succ (r n : Nat) (hr : r < 8) : rem 8 r (8 * (n + 1)) = insert (8 * n + r) (rem 8 r (8 * n)) := by
  ext j
  simp only [rem, Finset.mem_filter, Finset.mem_range, Finset.mem_insert]
  omega

/-- The next number of a residue is not among the earlier ones. -/
theorem not_mem_rem (r n : Nat) : 8 * n + r ∉ rem 8 r (8 * n) := by
  simp only [rem, Finset.mem_filter, Finset.mem_range]
  omega

/-- The indices of remainder `r` by `p` are those of remainder `r` and of remainder `r + p` by `2p`. -/
theorem rem_half (p r n : Nat) (hr : r < p) : rem p r n = rem (2 * p) r n ∪ rem (2 * p) (r + p) n := by
  ext j
  simp only [rem, Finset.mem_filter, Finset.mem_range, Finset.mem_union]
  have h1 := Nat.mod_mod_of_dvd j (Dvd.intro_left 2 rfl : p ∣ 2 * p)
  have h2 : j % (2 * p) < 2 * p := Nat.mod_lt _ (by omega)
  constructor
  · rintro ⟨hj, e⟩
    by_cases hlt : j % (2 * p) < p
    · left; rw [Nat.mod_eq_of_lt hlt] at h1; omega
    · right
      have : (j % (2 * p)) % p = j % (2 * p) - p := by
        rw [Nat.mod_eq_sub_mod (by omega), Nat.mod_eq_of_lt (by omega)]
      omega
  · rintro (⟨hj, e⟩ | ⟨hj, e⟩)
    · rw [e, Nat.mod_eq_of_lt hr] at h1; exact ⟨hj, h1.symm⟩
    · rw [e, Nat.add_mod_right, Nat.mod_eq_of_lt hr] at h1; exact ⟨hj, h1.symm⟩

/-- The numbers of two different residues are disjoint. -/
theorem rem_disjoint (p r r' n : Nat) (h : r ≠ r') : Disjoint (rem p r n) (rem p r' n) := by
  rw [Finset.disjoint_left]
  intro j h1 h2
  exact h ((Finset.mem_filter.1 h1).2.symm.trans (Finset.mem_filter.1 h2).2)

/-- With one residue class, its numbers are all numbers below `n`. -/
theorem rem_one (n : Nat) : rem 1 0 n = Finset.range n := by
  simp [rem, Nat.mod_one]

end Cert.Proof.Top2

end
-- ==== Proof.Words.lean ====
/- The words the kernel computes from one entry `n` of `n_valid`: the number of chunks of 128 codes its loop visits, and the bounds of
   the loads of each chunk. -/
module

public import proofs.«01_k».proof.KernelIdeal
public import proofs.«01_k».proof.Kernel
public import Idealize.ShloMosaic.Lib.Affine

@[expose] public section

namespace Cert.Proof.Words

open Idealize.ShloMosaic

/-- The number of chunks that the kernel visits for an entry `n` of `n_valid`: `(n + 127) / 128`, and none if `n` is
    negative. -/
def chunks (n : Int) : Nat := ((n + 127) / 128).toNat

/-- That a word read signed is an integer, as an equation. -/
theorem isInt_iff {x : BitVec 32} {e : Int} : Affine.IsInt x e ↔ x.toInt = e := by unfold Affine.IsInt; exact Iff.rfl

/-- The quotient by 128 rounded to zero, by the quotient rounded down. -/
theorem tdiv_128 (e : Int) : (0 ≤ e → e.tdiv 128 = e / 128) ∧ (e < 0 → e.tdiv 128 = -(-e / 128)) := by
  refine ⟨fun h => Int.tdiv_eq_ediv_of_nonneg h, fun h => ?_⟩
  have : e = -(-e) := by omega
  rw [this, Int.neg_tdiv, Int.tdiv_eq_ediv_of_nonneg (by omega)]
  simp

/-- Division by 128, rounding to zero, of a word read signed. -/
theorem divsi_128 {a : BitVec 32} {e : Int} (ha : Affine.IsInt a e) : Affine.IsInt (Scalar.divsi a 128#32) (e.tdiv 128) := by
  rw [isInt_iff] at *
  have h : ¬ (128#32 = 0#32 ∨ (a = BitVec.intMin 32 ∧ (128#32 : BitVec 32) = -1#32)) := by
    rintro (h | ⟨_, h⟩) <;> revert h <;> decide
  rw [Scalar.divsi, IntOp.divsi, if_neg (by exact h), BitVec.toInt_sdiv, ha]
  have h1 : (128#32 : BitVec 32).toInt = 128 := by decide
  have r := Affine.word_range a
  rw [ha] at r
  rw [h1]
  have := tdiv_128 e
  apply Int.bmod_eq_of_le <;> omega

/-- The loop over the chunks has a meaning, and its number of trips is `chunks n`. -/
theorem t1 (n : BitVec 32) (h : n.toInt ≤ 8192) :
    (Cert.KernelIdeal.k0_t1_loop n).OK ∧ (Cert.KernelIdeal.k0_t1_loop n).trips = chunks n.toInt := by
  have h_c0 : Affine.IsInt 0#32 (0) := Affine.ofNat _ (by omega)
  have h_c1 : Affine.IsInt 1#32 (1) := Affine.ofNat _ (by omega)
  have h_c127 : Affine.IsInt 127#32 (127) := Affine.ofNat _ (by omega)
  have r_n : -2 ^ 31 ≤ n.toInt ∧ n.toInt < 2 ^ 31 := Affine.word_range n
  have h_n : Affine.IsInt n n.toInt := Affine.word n
  have h_v20 : Affine.IsInt _ (n.toInt + 127) := Affine.addi h_n h_c127 (by omega)
  have r_q := tdiv_128 (n.toInt + 127)
  have h_v21 : Affine.IsInt _ ((n.toInt + 127).tdiv 128) := divsi_128 h_v20
  have h_v22 : Affine.IsInt _ ((n.toInt + 127).tdiv 128) := Affine.subi h_v21 h_c0 (by omega)
  have h_v24 : Affine.IsInt _ ((n.toInt + 127).tdiv 128) := Affine.divsi_one h_v22 h_c1 (by omega)
  have h_v25 : Affine.IsInt _ ((n.toInt + 127).tdiv 128) := Affine.muli h_v24 h_c1 (by omega)
  have h_v26 : Affine.IsInt _ ((n.toInt + 127).tdiv 128) := Affine.addi h_c0 h_v25 (by omega)
  refine ⟨Affine.ok h_c0 h_v26 h_c1 (by omega), ?_⟩
  rw [isInt_iff] at h_v26 h_c0 h_c1
  show Scf.trips _ _ _ = _
  rw [Scf.trips, h_c0, h_c1, h_v26, chunks]
  omega

/-- The loop for the trips that an unrolled loop leaves over has a meaning and runs no trip. -/
theorem t2 (n : BitVec 32) (h : n.toInt ≤ 8192) :
    (Cert.KernelIdeal.k0_t2_loop n).OK ∧ (Cert.KernelIdeal.k0_t2_loop n).trips ≤ 0 := by
  have h_c0 : Affine.IsInt 0#32 (0) := Affine.ofNat _ (by omega)
  have h_c1 : Affine.IsInt 1#32 (1) := Affine.ofNat _ (by omega)
  have h_c127 : Affine.IsInt 127#32 (127) := Affine.ofNat _ (by omega)
  have r_n : -2 ^ 31 ≤ n.toInt ∧ n.toInt < 2 ^ 31 := Affine.word_range n
  have h_n : Affine.IsInt n n.toInt := Affine.word n
  have h_v20 : Affine.IsInt _ (n.toInt + 127) := Affine.addi h_n h_c127 (by omega)
  have r_q := tdiv_128 (n.toInt + 127)
  have h_v21 : Affine.IsInt _ ((n.toInt + 127).tdiv 128) := divsi_128 h_v20
  have h_v22 : Affine.IsInt _ ((n.toInt + 127).tdiv 128) := Affine.subi h_v21 h_c0 (by omega)
  have h_v23 : Affine.IsInt _ ((n.toInt + 127).tdiv 128) := Affine.addi h_c0 h_v22 (by omega)
  have h_v24 : Affine.IsInt _ ((n.toInt + 127).tdiv 128) := Affine.divsi_one h_v22 h_c1 (by omega)
  have h_v25 : Affine.IsInt _ ((n.toInt + 127).tdiv 128) := Affine.muli h_v24 h_c1 (by omega)
  have h_v26 : Affine.IsInt _ ((n.toInt + 127).tdiv 128) := Affine.addi h_c0 h_v25 (by omega)
  exact ⟨Affine.ok h_v26 h_v23 h_c1 (by omega), Affine.trips_le h_v26 h_v23 h_c1 _ (by omega)⟩

/-- A trip's number is under 64, there being at most 8192 codes. -/
theorem trip_lt (n : BitVec 32) (h : n.toInt ≤ 8192) (k : Fin (Cert.KernelIdeal.k0_t1_loop n).trips) : k.val < 64 := by
  have hk : k.val < chunks n.toInt := Nat.lt_of_lt_of_eq k.isLt (t1 n h).2
  rw [chunks] at hk
  omega

/-- The first code of trip `k`'s chunk, as the kernel computes it. -/
theorem first_code (k : Nat) (hk : k < 64) :
    Affine.IsInt (Scalar.muli (Scf.iv 0#32 1#32 k) 128#32) ((k : Int) * 128) := by
  have h_c0 : Affine.IsInt 0#32 (0) := Affine.ofNat _ (by omega)
  have h_c1 : Affine.IsInt 1#32 (1) := Affine.ofNat _ (by omega)
  have h_c128 : Affine.IsInt 128#32 (128) := Affine.ofNat _ (by omega)
  have h_iv : Affine.IsInt (Scf.iv 0#32 1#32 k) (k : Int) := Affine.iv h_c0 h_c1 _ (by omega)
  exact Affine.muli h_iv h_c128 (by omega)

/-- Every entry that counts at most the 8192 codes meets what the kernel's body assumes of it. -/
theorem chk (n : BitVec 32) (h : n.toInt ≤ 8192) : Cert.KernelIdeal.k0_chk1 n := by
  have no : ∀ k : Fin (Cert.KernelIdeal.k0_t2_loop n).trips, False := fun k =>
    Nat.not_lt_zero _ (Nat.lt_of_lt_of_le k.isLt (t2 n h).2)
  have h_c0 : Affine.IsInt 0#32 (0) := Affine.ofNat _ (by omega)
  refine ⟨(t1 n h).1, fun k => ?_, fun k => ?_, fun k => ?_, (t2 n h).1, fun k => (no k).elim, fun k => (no k).elim,
    fun k => (no k).elim⟩
  · exact Affine.dvd_of (first_code k (trip_lt n h k)) 128 (by omega)
  · have hk := trip_lt n h k
    exact Affine.inb_cons (Affine.indexCast (first_code k hk)) (by omega) <| Affine.inb_cons h_c0 (by omega) Affine.inb_nil
  · have hk := trip_lt n h k
    exact Affine.inb_cons (Affine.indexCast (first_code k hk)) (by omega) <| Affine.inb_cons h_c0 (by omega) Affine.inb_nil

/-- The same of the program before it is read at the extended reals: its words are the same. -/
theorem chk_bits (n : BitVec 32) (h : n.toInt ≤ 8192) : Cert.Kernel.k0_chk1 n := chk n h

end Cert.Proof.Words

end
-- ==== Proof.Trip.lean ====
/-
  One trip of the kernel's loop: the chunk of 128 distances it computes, and the two vectors it carries, read at a row and a token.
-/
module

public import proofs.«01_k».proof.Proof.Top2
public import proofs.«01_k».proof.Proof.Words
public import proofs.«01_k».proof.Proof.Gen.KernelIdeal.Frame
public import Idealize.ShloMosaic.PureOps.Ideal
public import Idealize.ShloMosaic.Lib.Pointwise

@[expose] public section

namespace Cert.Proof.Trip
open Cert.KernelIdeal Cert.KernelIdeal.Gen
open Idealize.ShloMosaic Idealize.ShloMosaic.TcCoe
noncomputable section

/-- The chunk of distances, read at slice `s`, row `r`, token `l`: code `8s + r` of the chunk. -/
theorem chunk_apply (v6 : Elt Ideal .i32) (v8 : FVec Ideal S16x512 .fp8e4m3) (v16 v18 : FVec Ideal S1x512 .f32)
    (k : Fin (k0_t1_loop v6).trips) (v63 : Vec Ideal S128x16 .fp8e4m3) (v66 v68 : Vec Ideal S128x1 .f32)
    (s : Fin 16) (r : Fin 8) (l : Fin 512) (h : s.val * 8 + r.val < 128) :
    k0_pay9 v6 v8 v16 v18 0#32 1#32 k v63 v66 v68 (ix3 s r l)
      = v16 (ix2 0 l) + Scalar.select (IntOp.cmpi CmpIPredicate.slt
            (IntOp.addi (Scalar.muli (Scf.iv 0#32 1#32 k.val) 128#32) (BitVec.ofNat 32 (s.val * 8 + r.val))) v6)
          (v66 (ix2 ⟨s.val * 8 + r.val, h⟩ 0)) (Ideal.ofBits FTy.f32 2139095040#32)
        - v18 (ix2 0 l) * v68 (ix2 ⟨s.val * 8 + r.val, h⟩ 0)
            * ∑ x : Fin 16, v63 (ix2 ⟨s.val * 8 + r.val, h⟩ x) * v8 (ix2 x l) := by
  pointwise [k0_pay9]

/-- `a` and `b` are the least two of the values `f` on the first `n` codes of row `r`. -/
def Held (f : Nat → EReal) (r n : Nat) (a b : EReal) : Prop :=
  a = Top2.least (Top2.rem 8 r (8 * n)) f ∧ b = Top2.second (Top2.rem 8 r (8 * n)) f

/-- One insertion: the next code of the row joins the codes held. -/
theorem Held.ins {f : Nat → EReal} {r n : Nat} {a b x : EReal} (h : Held f r n a b) (hr : r < 8) (hx : x = f (8 * n + r)) :
    Held f r (n + 1) (min a x) (min b (max a x)) := by
  obtain ⟨rfl, rfl⟩ := h
  subst hx
  have hm : 8 * n + r ∉ Top2.rem 8 r (8 * n) := by
    simp only [Top2.rem, Finset.mem_filter, Finset.mem_range]; omega
  exact ⟨by rw [Top2.rem_succ r n hr, Top2.least_insert], by rw [Top2.rem_succ r n hr]; exact (Top2.second_insert hm f).symm⟩

/-- The first five insertions of a trip. -/
theorem first_five (v6 : Elt Ideal .i32) (v8 : FVec Ideal S16x512 .fp8e4m3) (v16 v18 : FVec Ideal S1x512 .f32)
    (k : Fin (k0_t1_loop v6).trips) (a b : FVec Ideal S8x512 .f32) (v63 : Vec Ideal S128x16 .fp8e4m3) (v66 v68 : Vec Ideal S128x1 .f32)
    (f : Nat → EReal) (n : Nat) (r : Fin 8) (l : Fin 512)
    (h : Held f r n (a (ix2 r l)) (b (ix2 r l)))
    (hx : ∀ s : Fin 16, k0_pay9 v6 v8 v16 v18 0#32 1#32 k v63 v66 v68 (ix3 s r l) = f (8 * (n + s.val) + r.val)) :
    Held f r (n + 5) (k0_pay19 v6 v8 v16 v18 0#32 1#32 k a v63 v66 v68 (ix2 r l)) (k0_pay20 v6 v8 v16 v18 0#32 1#32 k a b v63 v66 v68 (ix2 r l)) := by
  have h5 := ((((h.ins r.isLt (hx 0)).ins r.isLt (hx 1)).ins r.isLt (hx 2)).ins r.isLt (hx 3)).ins r.isLt (hx 4)
  generalize hv : k0_pay9 v6 v8 v16 v18 0#32 1#32 k v63 v66 v68 = v at h5
  pointwise [k0_pay19, k0_pay20, k0_pay18, k0_pay17, k0_pay16, k0_pay15, k0_pay14, k0_pay13, k0_pay12, k0_pay11, k0_pay10]
  rw [hv]
  exact h5

/-- The other eleven. -/
theorem last_eleven (v : FVec Ideal S16x8x512 .f32) (a b : FVec Ideal S8x512 .f32) (c : FVec Ideal S1x8x512 .f32)
    (f : Nat → EReal) (n : Nat) (r : Fin 8) (l : Fin 512)
    (h : Held f r (n + 5) (a (ix2 r l)) (b (ix2 r l)))
    (hc : c (ix3 0 r l) = v (ix3 5 r l))
    (hx : ∀ s : Fin 16, v (ix3 s r l) = f (8 * (n + s.val) + r.val)) :
    Held f r (n + 16) (k0_pay62 v a c (ix2 r l)) (k0_pay63 v a b c (ix2 r l)) := by
  have h6 := h.ins r.isLt (hc.trans (hx 5))
  have h11 := ((((h6.ins r.isLt (hx 6)).ins r.isLt (hx 7)).ins r.isLt (hx 8)).ins r.isLt (hx 9)).ins r.isLt (hx 10)
  have h16 := ((((h11.ins r.isLt (hx 11)).ins r.isLt (hx 12)).ins r.isLt (hx 13)).ins r.isLt (hx 14)).ins r.isLt (hx 15)
  pointwise [k0_pay62, k0_pay63, k0_pay61, k0_pay60, k0_pay59, k0_pay58, k0_pay57, k0_pay56, k0_pay55, k0_pay54, k0_pay53,
    k0_pay52, k0_pay51, k0_pay50, k0_pay49, k0_pay48, k0_pay47, k0_pay46, k0_pay45, k0_pay44, k0_pay43, k0_pay42, k0_pay41]
  exact h16

/-- The sixth slice, which the first part of a trip hands over. -/
theorem sixth (v6 : Elt Ideal .i32) (v8 : FVec Ideal S16x512 .fp8e4m3) (v16 v18 : FVec Ideal S1x512 .f32)
    (k : Fin (k0_t1_loop v6).trips) (v63 : Vec Ideal S128x16 .fp8e4m3) (v66 v68 : Vec Ideal S128x1 .f32) (r : Fin 8) (l : Fin 512) :
    k0_pay21 v6 v8 v16 v18 0#32 1#32 k v63 v66 v68 (ix3 0 r l) = k0_pay9 v6 v8 v16 v18 0#32 1#32 k v63 v66 v68 (ix3 5 r l) := by
  generalize hv : k0_pay9 v6 v8 v16 v18 0#32 1#32 k v63 v66 v68 = v
  pointwise [k0_pay21]
  rw [hv]

end
end Cert.Proof.Trip
end
-- ==== Proof.Loop.lean ====
/-
  The kernel's loop: after `k` trips each row holds the least two distances of its codes among the first `128·k`.
-/
module

public import proofs.«01_k».proof.Proof.Trip

@[expose] public section

namespace Cert.Proof.Loop
open Cert.KernelIdeal Cert.KernelIdeal.Gen Cert.Proof.Trip
open Idealize.ShloMosaic Idealize.ShloMosaic.TcCoe
noncomputable section

/-- The masked distance of code `j` as the kernel computes it, from the token's `xn`, `2·xs` and codes `xv` and the
    codebook's codes, scales and norms; `⊤` past the codebook. -/
def dist (w : BitVec 32) (xn xs2 : EReal) (xv : Fin 16 → EReal) (cd : FVec Ideal S8192x16 .fp8e4m3)
    (sc cn : FVec Ideal S8192x1 .f32) (j : Nat) : EReal :=
  if h : j < 8192 then
    (xn + (if (j : Int) < w.toInt then cn (ix2 ⟨j, h⟩ 0) else ⊤)) - xs2 * sc (ix2 ⟨j, h⟩ 0) * ∑ x : Fin 16, cd (ix2 ⟨j, h⟩ x) * xv x
  else ⊤

/-- The word of a code's number. -/
theorem code_word (k : Nat) (hk : k < 64) (p : Nat) (hp : p < 128) :
    (IntOp.addi (Scalar.muli (Scf.iv 0#32 1#32 k) 128#32) (BitVec.ofNat 32 p)).toInt = (128 * k + p : Nat) := by
  have h1 := Words.first_code k hk
  have h2 : Affine.IsInt (BitVec.ofNat 32 p) (p : Int) := Affine.ofNat _ (by omega)
  have h3 : Affine.IsInt (Scalar.addi (Scalar.muli (Scf.iv 0#32 1#32 k) 128#32) (BitVec.ofNat 32 p)) ((k : Int) * 128 + p) :=
    Affine.addi h1 h2 (by omega)
  rw [Words.isInt_iff] at h3
  refine Eq.trans ?_ (h3.trans (by push_cast; ring))
  rfl

/-- The first row a trip loads. -/
theorem first_row (k : Nat) (hk : k < 64) : (Scalar.indexCast (Scalar.muli (Scf.iv 0#32 1#32 k) 128#32) : Index).toNat = 128 * k := by
  have h1 := Words.first_code k hk
  rw [Words.isInt_iff] at h1
  have h4 : (Scalar.muli (Scf.iv 0#32 1#32 k) 128#32).toInt = ((Scalar.muli (Scf.iv 0#32 1#32 k) 128#32).toNat : Int) := by
    rw [BitVec.toInt_eq_toNat_of_lt]
    by_contra hc
    have := BitVec.toInt_eq_toNat_bmod (Scalar.muli (Scf.iv 0#32 1#32 k) 128#32)
    have h5 : (Scalar.muli (Scf.iv 0#32 1#32 k) 128#32).toInt < 0 := by rw [BitVec.toInt_neg_iff]; omega
    omega
  show (Scalar.muli (Scf.iv 0#32 1#32 k) 128#32).toNat = 128 * k
  omega

/-- A trip's load of codes, read at an element. -/
theorem load_codes {κ sp} (v : View sig κ sp S8192x16 .fp8e4m3) (X : v.ty.Contents (Elt Ideal)) (v6 : BitVec 32) (k : Fin (k0_t1_loop v6).trips)
    (hk : k.val < 64) (inb) (p : Fin 128) (x : Fin 16) (h : 128 * k.val + p.val < 8192) :
    View.readAt (Elt Ideal) v (Rect.unit (s := S8192x16) (k0_off2 v6 k) S128x16.size inb).toLoadRect X (ix2 p x)
      = v.read (Elt Ideal) X (ix2 ⟨128 * k.val + p.val, h⟩ x) := by
  rw [View.readAt_apply]
  refine congrArg _ (funext fun a => Fin.ext ?_)
  match a with
  | ⟨0, _⟩ =>
    show (Scalar.indexCast (Scalar.muli (Scf.iv 0#32 1#32 k.val) 128#32) : Index).toNat + 1 * p.val = _
    rw [first_row k.val hk, one_mul]; rfl
  | ⟨1, _⟩ => show 0 + 1 * x.val = x.val; omega

/-- A trip's load of scales or norms, read at an element. -/
theorem load_col {κ sp} (v : View sig κ sp S8192x1 .f32) (X : v.ty.Contents (Elt Ideal)) (v6 : BitVec 32) (k : Fin (k0_t1_loop v6).trips)
    (hk : k.val < 64) (inb) (p : Fin 128) (h : 128 * k.val + p.val < 8192) :
    View.readAt (Elt Ideal) v (Rect.unit (s := S8192x1) (k0_off3 v6 k) S128x1.size inb).toLoadRect X (ix2 p 0)
      = v.read (Elt Ideal) X (ix2 ⟨128 * k.val + p.val, h⟩ 0) := by
  rw [View.readAt_apply]
  refine congrArg _ (funext fun a => Fin.ext ?_)
  match a with
  | ⟨0, _⟩ =>
    show (Scalar.indexCast (Scalar.muli (Scf.iv 0#32 1#32 k.val) 128#32) : Index).toNat + 1 * p.val = _
    rw [first_row k.val hk, one_mul]; rfl
  | ⟨1, _⟩ => rfl

/-- The mask's word is the comparison of the code's number with the limit. -/
theorem mask_eq (k : Nat) (hk : k < 64) (p : Nat) (hp : p < 128) (w : BitVec 32) (a b : EReal) :
    Scalar.select (IntOp.cmpi CmpIPredicate.slt (IntOp.addi (Scalar.muli (Scf.iv 0#32 1#32 k) 128#32) (BitVec.ofNat 32 p)) w) a b
      = if ((128 * k + p : Nat) : Int) < w.toInt then a else b := by
  have h := code_word k hk p hp
  have h2 : (IntOp.cmpi CmpIPredicate.slt (IntOp.addi (Scalar.muli (Scf.iv 0#32 1#32 k) 128#32) (BitVec.ofNat 32 p)) w)
      = BitVec.ofBool (decide (((128 * k + p : Nat) : Int) < w.toInt)) := by
    rw [← h]; rfl
  rw [h2]
  by_cases hd : ((128 * k + p : Nat) : Int) < w.toInt
  · rw [if_pos hd, decide_eq_true hd]; rfl
  · rw [if_neg hd, decide_eq_false hd]; rfl

section
variable (𝒱 : Variants) (c : Dev nD) (bd : Option 𝒱.V) (i : grid0.Coords) (arg2 : Memref sig .tc .smem S6 .i32) (harg2 : arg2.IsWhole)
  (arg3 : Memref sig .tc .vmem S1x16x512 .fp8e4m3) (harg3 : arg3.IsWhole) (arg4 : Memref sig .tc .vmem S1x1x1x512 .f32) (harg4 : arg4.IsWhole)
  (arg5 : Memref sig .tc .vmem S8192x16 .fp8e4m3) (harg5 : arg5.IsWhole) (arg6 : Memref sig .tc .vmem S8192x1 .f32) (harg6 : arg6.IsWhole)
  (arg7 : Memref sig .tc .vmem S1x1x1x512 .f32) (harg7 : arg7.IsWhole) (arg8 : Memref sig .tc .vmem S1x1x1x512 .f32) (harg8 : arg8.IsWhole)
  (arg9 : Memref sig .tc .vmem S8192x1 .f32) (harg9 : arg9.IsWhole) (v6 : BitVec 32) (k0_hw1 : k0_chk1 v6)
  (v7 : Vec Ideal S1x16x512 .fp8e4m3) (v10 : Vec Ideal S1x1x1x512 .f32)
  (X5 : BufTy.Contents (Elt Ideal) arg5.view.ty) (X6 : BufTy.Contents (Elt Ideal) arg6.view.ty) (X9 : BufTy.Contents (Elt Ideal) arg9.view.ty)

/-- The distances of token `l` of the block whose codes are `v7` and whose scales are `v10`. -/
def tokDist (v6 : BitVec 32) (v7 : Vec Ideal S1x16x512 .fp8e4m3) (v10 : Vec Ideal S1x1x1x512 .f32) (cd : FVec Ideal S8192x16 .fp8e4m3)
    (sc cn : FVec Ideal S8192x1 .f32) (l : Fin 512) : Nat → EReal :=
  dist v6 (k0_pay38 v7 v10 (ix2 0 l)) (k0_pay39 v10 (ix2 0 l)) (fun x => k0_pay36 v7 (ix2 x l)) cd sc cn

/-- One trip takes the two vectors held over the first `128·k` codes to those over the first `128·(k+1)`. -/
theorem trip_held (h6 : v6.toInt ≤ 8192) (k : Fin (k0_t1_loop v6).trips) (acc : FVec Ideal S8x512 .f32 × FVec Ideal S8x512 .f32)
    (r : Fin 8) (l : Fin 512)
    (h : Held (tokDist v6 v7 v10 (arg5.view.read (Elt Ideal) X5) (arg6.view.read (Elt Ideal) X6) (arg9.view.read (Elt Ideal) X9) l)
      r (16 * k.val) (acc.1 (ix2 r l)) (acc.2 (ix2 r l))) :
    Held (tokDist v6 v7 v10 (arg5.view.read (Elt Ideal) X5) (arg6.view.read (Elt Ideal) X6) (arg9.view.read (Elt Ideal) X9) l)
      r (16 * (k.val + 1))
      ((tripR_k0_t1 (F := Ideal) 𝒱 c bd i arg2 harg2 arg3 harg3 arg4 harg4 arg5 harg5 arg6 harg6 arg7 harg7 arg8 harg8 arg9 harg9 v6 k0_hw1 v7 v10 X5 X6 X9 k acc).1 (ix2 r l))
      ((tripR_k0_t1 (F := Ideal) 𝒱 c bd i arg2 harg2 arg3 harg3 arg4 harg4 arg5 harg5 arg6 harg6 arg7 harg7 arg8 harg8 arg9 harg9 v6 k0_hw1 v7 v10 X5 X6 X9 k acc).2 (ix2 r l)) := by
  have hk := Words.trip_lt v6 h6 k
  unfold tripR_k0_t1 trip_k0_t1
  dsimp only
  unfold trip_k0_t1.sl.r trip_k0_t1.sl.r_1 trip_k0_t1.sl.r_2 trip_k0_t1.sl.r_3
  have hx : ∀ s : Fin 16, k0_pay9 v6 (k0_pay36 v7) (k0_pay38 v7 v10) (k0_pay39 v10) 0#32 1#32 k
      (View.readAt (Elt Ideal) arg5.view (Rect.unit (s := S8192x16) (k0_off2 v6 k) S128x16.size (k0_off2_inb v6 k0_hw1 k)).toLoadRect X5)
      (View.readAt (Elt Ideal) arg9.view (Rect.unit (s := S8192x1) (k0_off3 v6 k) S128x1.size (k0_off3_inb v6 k0_hw1 k)).toLoadRect X9)
      (View.readAt (Elt Ideal) arg6.view (Rect.unit (s := S8192x1) (k0_off3 v6 k) S128x1.size (k0_off3_inb v6 k0_hw1 k)).toLoadRect X6)
      (ix3 s r l)
      = tokDist v6 v7 v10 (arg5.view.read (Elt Ideal) X5) (arg6.view.read (Elt Ideal) X6) (arg9.view.read (Elt Ideal) X9) l
        (8 * (16 * k.val + s.val) + r.val) := by
    intro s
    have hp : s.val * 8 + r.val < 128 := by omega
    have hj : 128 * k.val + (s.val * 8 + r.val) < 8192 := by omega
    have e : 8 * (16 * k.val + s.val) + r.val = 128 * k.val + (s.val * 8 + r.val) := by ring
    rw [e, tokDist, dist, dif_pos hj, chunk_apply _ _ _ _ _ _ _ _ _ _ _ hp, mask_eq k.val hk _ hp,
      load_col arg9.view X9 v6 k hk _ ⟨_, hp⟩ hj, load_col arg6.view X6 v6 k hk _ ⟨_, hp⟩ hj,
      show Ideal.ofBits FTy.f32 2139095040#32 = ⊤ by simp [Ideal.ofBits, Ideal.ieee]]
    simp only [load_codes arg5.view X5 v6 k hk _ ⟨_, hp⟩ _ hj]
  have h5 := first_five v6 _ _ _ k acc.1 acc.2 _ _ _ _ _ r l h hx
  exact last_eleven _ _ _ _ _ _ r l h5 (sixth ..) hx

/-- The two vectors before trip `n`. -/
theorem st_held (h6 : v6.toInt ≤ 8192) (r : Fin 8) (l : Fin 512) : ∀ n : Nat, n ≤ (k0_t1_loop v6).trips →
    Held (tokDist v6 v7 v10 (arg5.view.read (Elt Ideal) X5) (arg6.view.read (Elt Ideal) X6) (arg9.view.read (Elt Ideal) X9) l)
      r (16 * n)
      ((st_k0_t1 (F := Ideal) 𝒱 c bd i arg2 harg2 arg3 harg3 arg4 harg4 arg5 harg5 arg6 harg6 arg7 harg7 arg8 harg8 arg9 harg9 v6 k0_hw1 v7 v10 X5 X6 X9 (k0_pay40, k0_pay40) n).1 (ix2 r l))
      ((st_k0_t1 (F := Ideal) 𝒱 c bd i arg2 harg2 arg3 harg3 arg4 harg4 arg5 harg5 arg6 harg6 arg7 harg7 arg8 harg8 arg9 harg9 v6 k0_hw1 v7 v10 X5 X6 X9 (k0_pay40, k0_pay40) n).2 (ix2 r l))
  | 0, _ => by
    rw [st_k0_t1_zero]
    have e : (k0_pay40 (F := Ideal) (ix2 r l)) = (⊤ : EReal) := by
      pointwise [k0_pay40]
      simp [Ideal.ofBits, Ideal.ieee]
    have hr : Top2.rem 8 r.val (8 * (16 * 0)) = ∅ := by simp [Top2.rem]
    rw [Held, hr, Top2.least_empty, Top2.second_empty]
    exact ⟨e, e⟩
  | n + 1, hn => by
    have hs := st_k0_t1_succ (F := Ideal) 𝒱 c bd i arg2 harg2 arg3 harg3 arg4 harg4 arg5 harg5 arg6 harg6 arg7 harg7 arg8 harg8 arg9 harg9 v6 k0_hw1 v7 v10 X5 X6 X9 (k0_pay40, k0_pay40) ⟨n, hn⟩
    have ht := trip_held 𝒱 c bd i arg2 harg2 arg3 harg3 arg4 harg4 arg5 harg5 arg6 harg6 arg7 harg7 arg8 harg8 arg9 harg9 v6 k0_hw1 v7 v10 X5 X6 X9 h6 ⟨n, hn⟩ _ r l
      (st_held h6 r l n (Nat.le_of_succ_le hn))
    rw [hs]
    exact ht
end
end
end Cert.Proof.Loop
end
-- ==== Proof.Merge.lean ====
/-
  The end of a block: the eight rows are merged, four and four, two and two, one and one, and the two results stored.
-/
module

public import proofs.«01_k».proof.Proof.Loop

@[expose] public section

namespace Cert.Proof.Merge
open Cert.KernelIdeal Cert.KernelIdeal.Gen Cert.Proof.Trip
open Idealize.ShloMosaic Idealize.ShloMosaic.TcCoe
noncomputable section

/-- `a` and `b` are the least two values on the numbers below `n` that leave `r` divided by `p`. -/
def Part (f : Nat → EReal) (n p r : Nat) (a b : EReal) : Prop :=
  a = Top2.least (Top2.rem p r n) f ∧ b = Top2.second (Top2.rem p r n) f

/-- Two rows merged. -/
theorem Part.merge {f : Nat → EReal} {n p r : Nat} {a b a' b' : EReal} (hr : r < p) (hp : 0 < p) (h : Part f n (2 * p) r a b)
    (h' : Part f n (2 * p) (r + p) a' b') : Part f n p r (min a a') (min (max a a') (min b b')) := by
  obtain ⟨rfl, rfl⟩ := h
  obtain ⟨rfl, rfl⟩ := h'
  have e := Top2.rem_half p r n hr
  have hd := Top2.rem_disjoint (2 * p) r (r + p) n (by omega)
  exact ⟨by rw [e]; exact (Top2.least_union ..).symm, by rw [e]; exact (Top2.second_union hd f).symm⟩

/-- The two results stored, read at token `l`. -/
theorem merged (A B : FVec Ideal S8x512 .f32) (f : Nat → EReal) (n : Nat) (l : Fin 512)
    (h : ∀ r : Fin 8, Held f r.val n (A (ix2 r l)) (B (ix2 r l))) :
    k0_pay7 (k0_pay89 A) (ix4 0 0 0 l) = Top2.least (Finset.range (8 * n)) f
    ∧ k0_pay8 (k0_pay89 A) (k0_pay90 A B) (ix4 0 0 0 l)
      = Top2.second (Finset.range (8 * n)) f - Top2.least (Finset.range (8 * n)) f := by
  have m0 : Part f (8 * n) 4 0 _ _ := Part.merge (p := 4) (by omega) (by omega) (h 0) (h 4)
  have m1 : Part f (8 * n) 4 1 _ _ := Part.merge (p := 4) (by omega) (by omega) (h 1) (h 5)
  have m2 : Part f (8 * n) 4 2 _ _ := Part.merge (p := 4) (by omega) (by omega) (h 2) (h 6)
  have m3 : Part f (8 * n) 4 3 _ _ := Part.merge (p := 4) (by omega) (by omega) (h 3) (h 7)
  have q0 : Part f (8 * n) 2 0 _ _ := Part.merge (p := 2) (by omega) (by omega) m0 m2
  have q1 : Part f (8 * n) 2 1 _ _ := Part.merge (p := 2) (by omega) (by omega) m1 m3
  have q : Part f (8 * n) 1 0 _ _ := Part.merge (p := 1) (by omega) (by omega) q0 q1
  rw [Part, Top2.rem_one] at q
  rw [← q.1, ← q.2]
  constructor
  · pointwise [k0_pay7, k0_pay6, k0_pay5, k0_pay4, k0_pay3, k0_pay2, k0_pay1, k0_pay89, k0_pay88, k0_pay87]
  · pointwise [k0_pay8, k0_pay6, k0_pay5, k0_pay4, k0_pay3, k0_pay2, k0_pay1, k0_pay90, k0_pay89, k0_pay88, k0_pay87]
end
end Cert.Proof.Merge
end
-- ==== Proof.Block.lean ====
/-
  What one grid point leaves: the two blocks of results, and the codebook norms kept in scratch.
-/
module

public import proofs.«01_k».proof.Proof.Merge
public import Idealize.ShloMosaic.Lib.Pipeline.Value
public import Idealize.ShloMosaic.Lib.VecWindow

@[expose] public section

namespace Cert.Proof.Block
open Cert.KernelIdeal Cert.KernelIdeal.Gen Cert.Proof.Trip Cert.Proof.Loop
open Idealize.ShloMosaic Idealize.ShloMosaic.TcCoe
noncomputable section

/-- The four zero offsets, as a constant function. -/
theorem hz : (![0, 0, 0, 0] : Fin 4 → Nat) = fun _ => 0 := funext fun a => by fin_cases a <;> rfl
/-- The three zero offsets, as a constant function. -/
theorem hz3 : (![0, 0, 0] : Fin 3 → Nat) = fun _ => 0 := funext fun a => by fin_cases a <;> rfl
/-- The two zero offsets, as a constant function. -/
theorem hz2 : (![0, 0] : Fin 2 → Nat) = fun _ => 0 := funext fun a => by fin_cases a <;> rfl

/-- The results of a block whose codes are `x0`, whose scales are `x1`, and whose limit is `w`, at token `l`. -/
def least (w : BitVec 32) (x0 : FVec Ideal S1x16x512 .fp8e4m3) (x1 : FVec Ideal S1x1x1x512 .f32) (cd : FVec Ideal S8192x16 .fp8e4m3)
    (sc cn : FVec Ideal S8192x1 .f32) (l : Fin 512) : EReal :=
  Top2.least (Finset.range (128 * Words.chunks w.toInt)) (tokDist w x0 x1 cd sc cn l)

/-- The second least distance. -/
def second (w : BitVec 32) (x0 : FVec Ideal S1x16x512 .fp8e4m3) (x1 : FVec Ideal S1x1x1x512 .f32) (cd : FVec Ideal S8192x16 .fp8e4m3)
    (sc cn : FVec Ideal S8192x1 .f32) (l : Fin 512) : EReal :=
  Top2.second (Finset.range (128 * Words.chunks w.toInt)) (tokDist w x0 x1 cd sc cn l)

/-- The word of the table that grid point `i` reads. -/
abbrev limit (c : Dev nD) (i : grid0.Coords) (xt0 : TbBuf0 (F := Ideal) c tbM0_0) : BitVec 32 :=
  tbM0_0.view.readAt (Elt Ideal) (Rect.unit (s := S6) (k0_off1 i) S1.size (k0_off1_inb i)).toLoadRect xt0 (Shape.Idx.first (numel1_S1.symm ▸ Nat.one_pos))

section
variable (c : Dev nD) (i : grid0.Coords)
  (arg3 : Memref sig .tc .vmem S1x16x512 .fp8e4m3) (harg3 : arg3.IsWhole) (arg4 : Memref sig .tc .vmem S1x1x1x512 .f32) (harg4 : arg4.IsWhole)
  (arg5 : Memref sig .tc .vmem S8192x16 .fp8e4m3) (harg5 : arg5.IsWhole) (arg6 : Memref sig .tc .vmem S8192x1 .f32) (harg6 : arg6.IsWhole)
  (arg7 : Memref sig .tc .vmem S1x1x1x512 .f32) (harg7 : arg7.IsWhole) (arg8 : Memref sig .tc .vmem S1x1x1x512 .f32) (harg8 : arg8.IsWhole)
  (arg9 : Memref sig .tc .vmem S8192x1 .f32) (harg9 : arg9.IsWhole)

/-- The vectors held when both loops are through, given the scratch's contents `X9`. -/
abbrev final (w : BitVec 32) (hw : k0_chk1 w) (v7 : Vec Ideal S1x16x512 .fp8e4m3) (v10 : Vec Ideal S1x1x1x512 .f32)
    (X5 : BufTy.Contents (Elt Ideal) arg5.view.ty) (X6 : BufTy.Contents (Elt Ideal) arg6.view.ty) (X9 : BufTy.Contents (Elt Ideal) arg9.view.ty) :=
  st_k0_t2 (F := Ideal) Variants.none c none i tbM0_0 htbM0_0 arg3 harg3 arg4 harg4 arg5 harg5 arg6 harg6 arg7 harg7 arg8 harg8 arg9 harg9 w hw v7 v10
    (k0_t2_loop w).lb X5 X6 X9
    ((st_k0_t1 (F := Ideal) Variants.none c none i tbM0_0 htbM0_0 arg3 harg3 arg4 harg4 arg5 harg5 arg6 harg6 arg7 harg7 arg8 harg8 arg9 harg9 w hw v7 v10 X5 X6 X9 (k0_pay40, k0_pay40) (k0_t1_loop w).trips).1,
     (st_k0_t1 (F := Ideal) Variants.none c none i tbM0_0 htbM0_0 arg3 harg3 arg4 harg4 arg5 harg5 arg6 harg6 arg7 harg7 arg8 harg8 arg9 harg9 w hw v7 v10 X5 X6 X9 (k0_pay40, k0_pay40) (k0_t1_loop w).trips).2)
    (k0_t2_loop w).trips

/-- The two results of a block from the vectors held. -/
theorem final_two (w : BitVec 32) (hw : k0_chk1 w) (h : w.toInt ≤ 8192) (v7 : Vec Ideal S1x16x512 .fp8e4m3) (v10 : Vec Ideal S1x1x1x512 .f32)
    (X5 : BufTy.Contents (Elt Ideal) arg5.view.ty) (X6 : BufTy.Contents (Elt Ideal) arg6.view.ty) (X9 : BufTy.Contents (Elt Ideal) arg9.view.ty)
    (l : Fin 512) :
    k0_pay7 (k0_pay89 (final c i arg3 harg3 arg4 harg4 arg5 harg5 arg6 harg6 arg7 harg7 arg8 harg8 arg9 harg9 w hw v7 v10 X5 X6 X9).1) (ix4 0 0 0 l)
      = least w v7 v10 (arg5.view.read (Elt Ideal) X5) (arg6.view.read (Elt Ideal) X6) (arg9.view.read (Elt Ideal) X9) l
    ∧ k0_pay8 (k0_pay89 (final c i arg3 harg3 arg4 harg4 arg5 harg5 arg6 harg6 arg7 harg7 arg8 harg8 arg9 harg9 w hw v7 v10 X5 X6 X9).1)
        (k0_pay90 (final c i arg3 harg3 arg4 harg4 arg5 harg5 arg6 harg6 arg7 harg7 arg8 harg8 arg9 harg9 w hw v7 v10 X5 X6 X9).1
          (final c i arg3 harg3 arg4 harg4 arg5 harg5 arg6 harg6 arg7 harg7 arg8 harg8 arg9 harg9 w hw v7 v10 X5 X6 X9).2) (ix4 0 0 0 l)
      = second w v7 v10 (arg5.view.read (Elt Ideal) X5) (arg6.view.read (Elt Ideal) X6) (arg9.view.read (Elt Ideal) X9) l
        - least w v7 v10 (arg5.view.read (Elt Ideal) X5) (arg6.view.read (Elt Ideal) X6) (arg9.view.read (Elt Ideal) X9) l := by
  have h2 : (k0_t2_loop w).trips = 0 := Nat.le_zero.1 (Words.t2 w h).2
  have h1 := (Words.t1 w h).2
  unfold final
  rw [h2, st_k0_t2_zero]
  dsimp only
  have hm := Merge.merged _ _ _ _ l fun r => st_held Variants.none c none i tbM0_0 htbM0_0 arg3 harg3 arg4 harg4 arg5 harg5 arg6 harg6 arg7 harg7 arg8 harg8 arg9 harg9
    w hw v7 v10 X5 X6 X9 h r l (k0_t1_loop w).trips (le_refl _)
  have e : 8 * (16 * (k0_t1_loop w).trips) = 128 * Words.chunks w.toInt := by rw [h1]; ring
  rw [e] at hm
  exact hm

variable (x0 : Vec Ideal S1x16x512 .fp8e4m3) (x1 : Vec Ideal S1x1x1x512 .f32) (x2 : Vec Ideal S8192x16 .fp8e4m3) (x3 : Vec Ideal S8192x1 .f32)
  (xt0 : TbBuf0 (F := Ideal) c tbM0_0)

/-- The norms stored by the first point. -/
theorem sout_A (hc0 : cond0_0 i) (hw : k0_chk1 (limit c i xt0)) :
    sout0_A_0 (F := Ideal) c i arg3 harg3 arg4 harg4 arg5 harg5 arg6 harg6 arg7 harg7 arg8 harg8 arg9 harg9 hc0 x0 x1 x2 x3 xt0 hw = k0_pay35 x2 x3 x3 := by
  unfold sout0_A_0
  unfold kernelRun0_A
  dsimp only
  sl_unfold_words
  rw [View.read_writes_full]
  simp only [View.readAt_eq_ld, harg5.read_unread, harg6.read_unread, View.ld_unit_zero (S := S8192x16) hz2, View.ld_unit_zero (S := S8192x1) hz2]

/-- The results of the first point. -/
theorem out_A (hc0 : cond0_0 i) (hw : k0_chk1 (limit c i xt0)) (h : (limit c i xt0).toInt ≤ 8192) (l : Fin 512) :
    out0_A_4 (F := Ideal) c i arg3 harg3 arg4 harg4 arg5 harg5 arg6 harg6 arg7 harg7 arg8 harg8 arg9 harg9 hc0 x0 x1 x2 x3 xt0 hw (ix4 0 0 0 l)
      = least (limit c i xt0) x0 x1 x2 x3 (k0_pay35 x2 x3 x3) l
    ∧ out0_A_5 (F := Ideal) c i arg3 harg3 arg4 harg4 arg5 harg5 arg6 harg6 arg7 harg7 arg8 harg8 arg9 harg9 hc0 x0 x1 x2 x3 xt0 hw (ix4 0 0 0 l)
      = second (limit c i xt0) x0 x1 x2 x3 (k0_pay35 x2 x3 x3) l - least (limit c i xt0) x0 x1 x2 x3 (k0_pay35 x2 x3 x3) l := by
  unfold out0_A_4 out0_A_5
  rw [View.read_writes_eq_canon _ _ _ (cover0_A_4 c i arg3 harg3 arg4 harg4 arg5 harg5 arg6 harg6 arg7 harg7 arg8 harg8 arg9 harg9 hc0 x0 x1 x2 x3 xt0 hw),
    View.read_writes_eq_canon _ _ _ (cover0_A_5 c i arg3 harg3 arg4 harg4 arg5 harg5 arg6 harg6 arg7 harg7 arg8 harg8 arg9 harg9 hc0 x0 x1 x2 x3 xt0 hw)]
  unfold kernelRun0_A
  dsimp only
  sl_unfold_words
  rw [View.canon_unit_zero hz, View.canon_unit_zero hz]
  have hf := final_two c i arg3 harg3 arg4 harg4 arg5 harg5 arg6 harg6 arg7 harg7 arg8 harg8 arg9 harg9 (limit c i xt0) hw h x0 x1
    (harg5.unread x2) (harg6.unread x3)
    (arg9.view.writes (Elt Ideal) arg9.view.junk [⟨Rect.unit (s := S8192x1) ![0, 0] S8192x1.size inb_S8192x1_S8192x1_0_0, k0_pay35 x2 x3 x3⟩]) l
  rw [harg5.read_unread, harg6.read_unread, View.read_writes_full] at hf
  simp only [View.readAt_eq_ld, harg3.read_unread, harg4.read_unread, harg5.read_unread, harg6.read_unread, View.ld_unit_zero (S := S8192x16) hz2,
    View.ld_unit_zero (S := S8192x1) hz2, View.ld_unit_zero (S := S1x16x512) hz3, View.ld_unit_zero (S := S1x1x1x512) hz]
  exact hf

/-- The results of a later point, whose scratch holds `xs0`. -/
theorem out_B (hc0 : ¬cond0_0 i) (xs0 : Vec Ideal S8192x1 .f32) (hw : k0_chk1 (limit c i xt0)) (h : (limit c i xt0).toInt ≤ 8192) (l : Fin 512) :
    out0_B_4 (F := Ideal) c i arg3 harg3 arg4 harg4 arg5 harg5 arg6 harg6 arg7 harg7 arg8 harg8 arg9 harg9 hc0 x0 x1 x2 x3 xt0 xs0 hw (ix4 0 0 0 l)
      = least (limit c i xt0) x0 x1 x2 x3 xs0 l
    ∧ out0_B_5 (F := Ideal) c i arg3 harg3 arg4 harg4 arg5 harg5 arg6 harg6 arg7 harg7 arg8 harg8 arg9 harg9 hc0 x0 x1 x2 x3 xt0 xs0 hw (ix4 0 0 0 l)
      = second (limit c i xt0) x0 x1 x2 x3 xs0 l - least (limit c i xt0) x0 x1 x2 x3 xs0 l := by
  unfold out0_B_4 out0_B_5
  rw [View.read_writes_eq_canon _ _ _ (cover0_B_4 c i arg3 harg3 arg4 harg4 arg5 harg5 arg6 harg6 arg7 harg7 arg8 harg8 arg9 harg9 hc0 x0 x1 x2 x3 xt0 xs0 hw),
    View.read_writes_eq_canon _ _ _ (cover0_B_5 c i arg3 harg3 arg4 harg4 arg5 harg5 arg6 harg6 arg7 harg7 arg8 harg8 arg9 harg9 hc0 x0 x1 x2 x3 xt0 xs0 hw)]
  unfold kernelRun0_B
  dsimp only
  sl_unfold_words
  rw [View.canon_unit_zero hz, View.canon_unit_zero hz]
  have hf := final_two c i arg3 harg3 arg4 harg4 arg5 harg5 arg6 harg6 arg7 harg7 arg8 harg8 arg9 harg9 (limit c i xt0) hw h x0 x1
    (harg5.unread x2) (harg6.unread x3) (harg9.unread xs0) l
  rw [harg5.read_unread, harg6.read_unread, harg9.read_unread] at hf
  simp only [View.readAt_eq_ld, harg3.read_unread, harg4.read_unread, View.ld_unit_zero (S := S1x16x512) hz3, View.ld_unit_zero (S := S1x1x1x512) hz]
  exact hf
end
end
end Cert.Proof.Block
end
-- ==== Proof.Table.lean ====
/- The word of `n_valid` that the kernel's body reads at a grid point, and the frames: where every word of `n_valid` is at most 8192, what
   the body assumes of the word it reads holds at every point. -/
module

public import proofs.«01_k».proof.Defs
public import proofs.«01_k».proof.Proof.Gen.Kernel.Frame
public import proofs.«01_k».proof.Proof.Gen.KernelIdeal.Frame
public import proofs.«01_k».proof.Proof.Gen.Pre_in_range
public import proofs.«01_k».proof.Proof.Words
public import Idealize.ShloMosaic.Lib.Pointwise.Tactic
public import Idealize.ShloMosaic.Lib.Pointwise.Index

@[expose] public section

namespace Cert.Proof.Table

open Idealize.ShloMosaic Idealize.ShloMosaic.TcCoe

/-- A word compared to be at most 8192 is, read signed. -/
theorem le_of_cmp (w : BitVec 32) (h : IntOp.cmpi .sle w 8192#32 = 1#1) : w.toInt ≤ 8192 := by
  have h2 : (8192#32 : BitVec 32).toInt = 8192 := by decide
  rw [← h2]
  by_contra hn
  have : IntOp.cmpi .sle w 8192#32 = 0#1 := by
    rw [h2] at hn
    simp [IntOp.cmpi, BitVec.sle, hn]
  rw [this] at h
  exact absurd h (by decide)

/-- The precondition on plain words: every entry, read signed, is at most 8192. -/
theorem le_of_pre {F : FTy → Type} [FloatOps F] (a0 : FVec F Cert.Pre_in_range.S6x12288x16 .f32) (a1 : FVec F Cert.Pre_in_range.S6x12288 .f32)
    (a2 : FVec F Cert.Pre_in_range.S8192x16 .f32) (a3 : FVec F Cert.Pre_in_range.S8192 .f32) (a4 : IVec Cert.Pre_in_range.S6 32)
    (h : Cert.Pre_in_range.fn (F := F) a0 a1 a2 a3 a4 = fun _ => 1#1) (y : Cert.Pre_in_range.S6.Idx) : (a4 y).toInt ≤ 8192 :=
  le_of_cmp _ (congrFun h y)

section ideal
open Cert.KernelIdeal Cert.KernelIdeal.Gen

/-- The word of `n_valid` that the body reads at point `t`. -/
noncomputable def word (m : (ℓ : Loc nD τ sig) → Buf (Elt Ideal) ℓ) (i : grid0.Coords) : BitVec 32 :=
  tbM0_0.view.readAt (Elt Ideal) (Rect.unit (s := S6) (k0_off1 i) S1.size (k0_off1_inb i)).toLoadRect (tbl m 0)
    (Shape.Idx.first (numel1_S1.symm ▸ Nat.one_pos))

/-- It is the entry of the point's batch. -/
theorem word_eq (m : (ℓ : Loc nD τ sig) → Buf (Elt Ideal) ℓ) (i : grid0.Coords) :
    word m i = m (((0 : Dev nD) : Thread nD τ).loc main_arg4) (ix1 (n0 := 6) (i 0)) := by
  refine (congrFun (V_main_arg4 m 0) _).trans (congrArg (m (((0 : Dev nD) : Thread nD τ).loc main_arg4)) ?_)
  funext (a : Fin 1)
  obtain rfl : a = 0 := Subsingleton.elim _ _
  have h0 : (i 0).val < 6 := (i 0).isLt
  refine Fin.ext ?_
  show (BitVec.ofNat 32 (i 0).val).toNat + 1 * (Shape.Idx.first (s := S1) (numel1_S1.symm ▸ Nat.one_pos) 0).val = (i 0).val
  have h1 : (Shape.Idx.first (s := S1) (numel1_S1.symm ▸ Nat.one_pos) 0).val < 1 := (Shape.Idx.first (s := S1) _ 0).isLt
  rw [BitVec.toNat_ofNat, Nat.mod_eq_of_lt (by omega)]
  omega

/-- No window's block depends on a word, so the pipeline asks nothing of the words. -/
theorem ok (m : (ℓ : Loc nD τ sig) → Buf (Elt Ideal) ℓ) : Ok m := trivial

/-- What the body assumes of the word it reads holds at every point. -/
theorem hyps (m : (ℓ : Loc nD τ sig) → Buf (Elt Ideal) ℓ) (h : ∀ y, (m (((0 : Dev nD) : Thread nD τ).loc main_arg4) y).toInt ≤ 8192) :
    Hyps m (ok m) := fun _ t => by
  refine Words.chk _ ?_
  show (word m (grid0.coords t)).toInt ≤ 8192
  rw [word_eq]; exact h _

end ideal

section bits
open Cert.Kernel Cert.Kernel.Gen

/-- The pipeline of the program before it is read at the extended reals asks nothing of the words either. -/
theorem ok_bits (m : (ℓ : Loc nD τ sig) → Buf (Elt Bits) ℓ) : Ok m := trivial

/-- What its body assumes of the word it reads holds at every point. -/
theorem hyps_bits (m : (ℓ : Loc nD τ sig) → Buf (Elt Bits) ℓ) (h : ∀ y, (m (((0 : Dev nD) : Thread nD τ).loc main_arg4) y).toInt ≤ 8192) :
    Hyps m (ok_bits m) := fun _ t => by
  refine Words.chk_bits _ ?_
  exact (congrArg BitVec.toInt (congrFun (V_main_arg4 m 0) _)).le.trans (h _)

end bits

end Cert.Proof.Table

end
-- ==== Proof.Blocks.lean ====
/-
  What each grid point's input blocks hold, as entries of the argument arrays.
-/
module

public import proofs.«01_k».proof.Proof.Table
public import Idealize.ShloMosaic.Lib.Claim
public import Idealize.ShloMosaic.Lib.Pointwise
public import Idealize.ShloMosaic.Lib.Pipeline.ValueKit

@[expose] public section

namespace Cert.Proof.Blocks
open Cert.KernelIdeal Cert.KernelIdeal.Gen
open Idealize.ShloMosaic Idealize.ShloMosaic.TcCoe
noncomputable section

variable (m : (ℓ : Loc nD τ sig) → Buf (Elt Ideal) ℓ) (hO : Ok m) (c : Dev nD)

/-- The codes as the region finds them: transposed. -/
theorem V_codes (b : Fin 6) (x : Fin 16) (j : Fin 12288) :
    V m c main_v2 (ix3 (n0 := 6) (n1 := 16) (n2 := 12288) b x j) = m ((c : Thread nD τ).loc main_arg0) (ix3 (n0 := 6) (n1 := 12288) (n2 := 16) b j x) := by
  show StableHlo.after hostOps0 (fun b => m (c, b)) (Proc.devRef .tc main_v2) _ = _
  entry_read
  pointwise

/-- The scales as the region finds them: cut into rows of 512. -/
theorem V_scales (b : Fin 6) (k : Fin 24) (l : Fin 512) (j : Fin 12288) (hj : j.val = 512 * k.val + l.val) :
    V m c main_v3 (ix4 (n0 := 6) (n1 := 24) (n2 := 1) (n3 := 512) b k 0 l) = m ((c : Thread nD τ).loc main_arg1) (ix2 (n0 := 6) (n1 := 12288) b j) := by
  show StableHlo.after hostOps0 (fun b => m (c, b)) (Proc.devRef .tc main_v3) _ = _
  entry_read
  pointwise
  have e : (⟨k.val * 512 + l.val, by omega⟩ : Fin 12288) = j := Fin.ext (by show k.val * 512 + l.val = j.val; omega)
  exact congrArg (fun j : Fin 12288 => m ((c : Thread nD τ).loc main_arg1) (ix2 (n0 := 6) (n1 := 12288) b j)) e

/-- The codebook's scales as the region finds them: a column. -/
theorem V_col (j : Fin 8192) :
    V m c main_v4 (ix2 (n0 := 8192) (n1 := 1) j 0) = m ((c : Thread nD τ).loc main_arg3) (ix1 (n0 := 8192) j) := by
  show StableHlo.after hostOps0 (fun b => m (c, b)) (Proc.devRef .tc main_v4) _ = _
  entry_read
  pointwise

/-- A point's batch and its tile. -/
theorem coords (t : Fin grid0.N) : (grid0.coords t 0).val = t.val / 24 ∧ (grid0.coords t 1).val = t.val % 24 := by
  have h : t.val < 144 := Nat.lt_of_lt_of_eq t.isLt N_0
  have h0 : (grid0.coords t 0).val = t.val / 24 % 6 := Pipeline.Grid.coords_val _ _ (by decide) (by decide)
  have h1 : (grid0.coords t 1).val = t.val / 1 % 24 := Pipeline.Grid.coords_val _ _ (by decide) (by decide)
  rw [h0, h1]
  omega

/-- A step number below 144 is read back from its 32-bit word. -/
theorem w32 (n : Nat) (h : n < 144) : (BitVec.ofNat 32 n).toNat = n := by
  rw [BitVec.toNat_ofNat, Nat.mod_eq_of_lt (by omega)]

/-- A point's block of codes. -/
theorem codes (t : Fin grid0.N) (x : Fin 16) (l : Fin 512) (b : Fin 6) (j : Fin 12288) (hb : (grid0.coords t 0).val = b.val)
    (hj : j.val = 512 * (grid0.coords t 1).val + l.val) :
    (iblk m hO c 0 t : FVec Ideal S1x16x512 .fp8e4m3) (ix3 0 x l) = m ((c : Thread nD τ).loc main_arg0) (ix3 (n0 := 6) (n1 := 12288) (n2 := 16) b j x) := by
  refine Eq.trans ?_ (V_codes m c b x j)
  refine congrArg (V m c main_v2) (funext fun (a : Fin 3) => Fin.ext ?_)
  have h0 := w32 (grid0.coords t 0).val (by have := (grid0.coords t 0).isLt; omega)
  have h1 := w32 (grid0.coords t 1).val (by have := (grid0.coords t 1).isLt; omega)
  match a with
  | 0 => show (BitVec.ofNat 32 (grid0.coords t 0).val).toNat * 1 + 1 * 0 = b.val; omega
  | 1 => show 0 * 16 + 1 * x.val = x.val; omega
  | 2 => show (BitVec.ofNat 32 (grid0.coords t 1).val).toNat * 512 + 1 * l.val = j.val; omega

/-- A point's block of scales. -/
theorem scales (t : Fin grid0.N) (l : Fin 512) (b : Fin 6) (j : Fin 12288) (hb : (grid0.coords t 0).val = b.val)
    (hj : j.val = 512 * (grid0.coords t 1).val + l.val) :
    (iblk m hO c 1 t : FVec Ideal S1x1x1x512 .f32) (ix4 0 0 0 l) = m ((c : Thread nD τ).loc main_arg1) (ix2 (n0 := 6) (n1 := 12288) b j) := by
  refine Eq.trans ?_ (V_scales m c b (grid0.coords t 1) l j hj)
  refine congrArg (V m c main_v3) (funext fun (a : Fin 4) => Fin.ext ?_)
  have h0 := w32 (grid0.coords t 0).val (by have := (grid0.coords t 0).isLt; omega)
  have h1 := w32 (grid0.coords t 1).val (by have := (grid0.coords t 1).isLt; omega)
  match a with
  | 0 => show (BitVec.ofNat 32 (grid0.coords t 0).val).toNat * 1 + 1 * 0 = b.val; omega
  | 1 => show (BitVec.ofNat 32 (grid0.coords t 1).val).toNat * 1 + 1 * 0 = (grid0.coords t 1).val; omega
  | 2 => rfl
  | 3 => show 0 * 512 + 1 * l.val = l.val; omega

/-- The codebook as the region finds it: its codes, cast, which over the extended reals are the values themselves. -/
theorem V_book (y : S8192x16.Idx) : (V m c main_v1 y : EReal) = m ((c : Thread nD τ).loc main_arg2) y := by
  show StableHlo.after hostOps0 (fun b => m (c, b)) (Proc.devRef .tc main_v1) _ = _
  entry_read
  rfl

/-- Every point's third block is the whole codebook. -/
theorem book (t : Fin grid0.N) : (iblk m hO c 2 t : FVec Ideal S8192x16 .fp8e4m3) = fun (y : S8192x16.Idx) => (m ((c : Thread nD τ).loc main_arg2) y : EReal) := by
  funext (y : S8192x16.Idx)
  refine (congrArg (V m c main_v1) (funext fun (a : Fin 2) => Fin.ext ?_)).trans (V_book m c y)
  match a with
  | 0 => show 0 * 8192 + 1 * (y 0).val = (y 0).val; omega
  | 1 => show 0 * 16 + 1 * (y 1).val = (y 1).val; omega

/-- Every point's fourth block is the codebook's scales, as a column. -/
theorem col (t : Fin grid0.N) : (iblk m hO c 3 t : FVec Ideal S8192x1 .f32) = fun (y : S8192x1.Idx) => m ((c : Thread nD τ).loc main_arg3) (ix1 (n0 := 8192) (y 0)) := by
  funext (y : S8192x1.Idx)
  refine Eq.trans ?_ (V_col m c (y 0))
  refine congrArg (V m c main_v4) (funext fun (a : Fin 2) => Fin.ext ?_)
  match a with
  | 0 => show 0 * 8192 + 1 * (y 0).val = (y 0).val; omega
  | 1 => show 0 * 1 + 1 * (y 1).val = 0; have := (y 1).isLt; have : (y 1).val < 1 := this; omega

end

end Cert.Proof.Blocks
-- ==== Proof.Points.lean ====
/-
  What every grid point leaves: the codebook's norms in scratch (filled at the first point, kept after it), and the two
  results of the point's 512 tokens.
-/
module

public import proofs.«01_k».proof.Proof.Block
public import proofs.«01_k».proof.Proof.Blocks

@[expose] public section

namespace Cert.Proof.Points
open Cert.KernelIdeal Cert.KernelIdeal.Gen
open Idealize.ShloMosaic Idealize.ShloMosaic.TcCoe
noncomputable section

variable (m : (ℓ : Loc nD τ sig) → Buf (Elt Ideal) ℓ) (hO : Ok m) (hH : Hyps m hO)

/-- The codebook. -/
abbrev book : FVec Ideal S8192x16 .fp8e4m3 := fun (y : S8192x16.Idx) => (m (((0 : Dev nD) : Thread nD τ).loc main_arg2) y : EReal)

/-- Its scales, as a column. -/
abbrev col : FVec Ideal S8192x1 .f32 := fun (y : S8192x1.Idx) => m (((0 : Dev nD) : Thread nD τ).loc main_arg3) (ix1 (n0 := 8192) (y 0))

/-- Its norms, as the first point computes them. -/
abbrev norms : FVec Ideal S8192x1 .f32 := k0_pay35 (book m) (col m) (col m)

/-- The norms are those of any equal codebook. -/
theorem norms_of (cd : FVec Ideal S8192x16 .fp8e4m3) (sc : FVec Ideal S8192x1 .f32) (h : cd = book m) (k : sc = col m) :
    k0_pay35 cd sc sc = norms m := by
  subst h k; rfl

/-- A point of the first kind fills the scratch with the norms. -/
theorem scratch_A (t : Fin (cfgM m hO).N) (h0 : t.val % 144 = 0) : (outsAt0 m hO hH 0 t.val t.isLt).2.2 = norms m := by
  rw [outsAt0_A m hO hH 0 t h0]
  dsimp only
  have hb := Block.sout_A 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO 0 0 t) (iblk m hO 0 1 t) (iblk m hO 0 2 t) (iblk m hO 0 3 t) (tbl m 0) ((hcond0_0 t).mpr h0) (Hyps.c0 hH 0 t)
  exact hb.trans (norms_of m _ _ (Blocks.book m hO 0 t) (Blocks.col m hO 0 t))

/-- Every other point keeps it. -/
theorem scratch_B (t : Fin (cfgM m hO).N) (h0 : ¬t.val % 144 = 0) :
    (outsAt0 m hO hH 0 t.val t.isLt).2.2 = (outsAt0 m hO hH 0 (t.val - 1) (Nat.lt_of_le_of_lt (Nat.sub_le _ _) t.isLt)).2.2 := by
  rw [outsAt0_B m hO hH 0 t h0]
  unfold sout0_B_0
  rfl

/-- After every point the scratch holds the norms. -/
theorem scratch : ∀ (n : Nat) (t : Fin (cfgM m hO).N), t.val = n → (outsAt0 m hO hH 0 t.val t.isLt).2.2 = norms m := by
  intro n
  induction n with
  | zero => exact fun t ht => scratch_A m hO hH t (by rw [ht])
  | succ n ih =>
    intro t ht
    have hlt : t.val < 144 := Nat.lt_of_lt_of_eq t.isLt N_0
    rw [scratch_B m hO hH t (by omega)]
    exact ih ⟨t.val - 1, Nat.lt_of_le_of_lt (Nat.sub_le _ _) t.isLt⟩ (by show t.val - 1 = n; omega)

/-- What token `l` of point `t` has as its least distance. -/
def least (t : Fin grid0.N) (l : Fin 512) : EReal :=
  Block.least (Table.word m (grid0.coords t)) (iblk m hO 0 0 t) (iblk m hO 0 1 t) (book m) (col m) (norms m) l

/-- And as its second least. -/
def second (t : Fin grid0.N) (l : Fin 512) : EReal :=
  Block.second (Table.word m (grid0.coords t)) (iblk m hO 0 0 t) (iblk m hO 0 1 t) (book m) (col m) (norms m) l

/-- Both are those of any equal codebook and norms. -/
theorem least_of (t : Fin grid0.N) (l : Fin 512) (w : BitVec 32) (hw : w = Table.word m (grid0.coords t)) (cd : FVec Ideal S8192x16 .fp8e4m3) (sc cn : FVec Ideal S8192x1 .f32)
    (h : cd = book m) (k : sc = col m) (n : cn = norms m) :
    Block.least w (iblk m hO 0 0 t) (iblk m hO 0 1 t) cd sc cn l = least m hO t l := by
  subst h k n hw; rfl

/-- Likewise the second. -/
theorem second_of (t : Fin grid0.N) (l : Fin 512) (w : BitVec 32) (hw : w = Table.word m (grid0.coords t)) (cd : FVec Ideal S8192x16 .fp8e4m3) (sc cn : FVec Ideal S8192x1 .f32)
    (h : cd = book m) (k : sc = col m) (n : cn = norms m) :
    Block.second w (iblk m hO 0 0 t) (iblk m hO 0 1 t) cd sc cn l = second m hO t l := by
  subst h k n hw; rfl

/-- The two results of token `l` of point `t`. -/
theorem results (hle : ∀ y, (m (((0 : Dev nD) : Thread nD τ).loc main_arg4) y).toInt ≤ 8192) (t : Fin (cfgM m hO).N) (l : Fin 512) :
    (outsAt0 m hO hH 0 t.val t.isLt).1 (ix4 0 0 0 l) = least m hO t l
      ∧ (outsAt0 m hO hH 0 t.val t.isLt).2.1 (ix4 0 0 0 l) = second m hO t l - least m hO t l := by
  have hw : (Block.limit 0 (grid0.coords t) (tbl m 0)).toInt ≤ 8192 := by
    show (Table.word m (grid0.coords t)).toInt ≤ 8192
    rw [Table.word_eq]; exact hle _
  have hc := Blocks.book m hO 0 t
  have hs := Blocks.col m hO 0 t
  by_cases h0 : t.val % 144 = 0
  · have hb := Block.out_A 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO 0 0 t) (iblk m hO 0 1 t) (iblk m hO 0 2 t) (iblk m hO 0 3 t) (tbl m 0) ((hcond0_0 t).mpr h0) (Hyps.c0 hH 0 t) hw l
    rw [outsAt0_A m hO hH 0 t h0]
    dsimp only
    have hn := norms_of m _ _ hc hs
    have e1 := least_of m hO t l (Block.limit 0 (grid0.coords t) (tbl m 0)) rfl _ _ _ hc hs hn
    have e2 := second_of m hO t l (Block.limit 0 (grid0.coords t) (tbl m 0)) rfl _ _ _ hc hs hn
    exact ⟨hb.1.trans e1, hb.2.trans (congrArg₂ (fun a b : EReal => a - b) e2 e1)⟩
  · have hb := Block.out_B 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO 0 0 t) (iblk m hO 0 1 t) (iblk m hO 0 2 t) (iblk m hO 0 3 t) (tbl m 0) (fun h => h0 ((hcond0_0 t).mp h)) (outsAt0 m hO hH 0 (t.val - 1) (Nat.lt_of_le_of_lt (Nat.sub_le _ _) t.isLt)).2.2 (Hyps.c0 hH 0 t) hw l
    rw [outsAt0_B m hO hH 0 t h0]
    dsimp only
    have hn := scratch m hO hH _ ⟨t.val - 1, Nat.lt_of_le_of_lt (Nat.sub_le _ _) t.isLt⟩ rfl
    have e1 := least_of m hO t l (Block.limit 0 (grid0.coords t) (tbl m 0)) rfl _ _ _ hc hs hn
    have e2 := second_of m hO t l (Block.limit 0 (grid0.coords t) (tbl m 0)) rfl _ _ _ hc hs hn
    exact ⟨hb.1.trans e1, hb.2.trans (congrArg₂ (fun a b : EReal => a - b) e2 e1)⟩

end

end Cert.Proof.Points
-- ==== Proof.Arrays.lean ====
/-
  What the result arrays hold after every point, and the run of the whole program.
-/
module

public import proofs.«01_k».proof.Proof.Points

@[expose] public section

namespace Cert.Proof.Arrays
open Cert.KernelIdeal Cert.KernelIdeal.Gen
open Idealize.ShloMosaic Idealize.ShloMosaic.TcCoe Idealize.SL.Sem
noncomputable section

variable (m : (ℓ : Loc nD τ sig) → Buf (Elt Ideal) ℓ) (hO : Ok m) (hH : Hyps m hO)

/-- The point of batch `b` and tile `k`. -/
def point (b : Fin 6) (k : Fin 24) : Fin grid0.N := ⟨24 * b.val + k.val, by rw [N_0]; omega⟩

/-- The two grid coordinates of `point b k` are `b` and `k`. -/
theorem point_coords (b : Fin 6) (k : Fin 24) : grid0.coords (point b k) 0 = b ∧ grid0.coords (point b k) 1 = k := by
  have h := Blocks.coords (point b k)
  constructor <;> refine Fin.ext ?_
  · rw [h.1]; show (24 * b.val + k.val) / 24 = b.val; omega
  · rw [h.2]; show (24 * b.val + k.val) % 24 = k.val; omega

/-- A grid step is the point of its coordinates. -/
theorem point_of (t : Fin grid0.N) : point (grid0.coords t 0) (grid0.coords t 1) = t := by
  have h := Blocks.coords t
  refine Fin.ext ?_
  show 24 * (grid0.coords t 0).val + (grid0.coords t 1).val = t.val
  omega

/-- The array of least distances, tile by tile. -/
def G4 : FVec Ideal S6x24x1x512 .f32 := fun (i : S6x24x1x512.Idx) => Points.least m hO (point (i 0) (i 1)) (i 3)

/-- The array of gaps. -/
def G5 : FVec Ideal S6x24x1x512 .f32 := fun (i : S6x24x1x512.Idx) =>
  (Points.second m hO (point (i 0) (i 1)) (i 3) - Points.least m hO (point (i 0) (i 1)) (i 3) : EReal)

/-- An index of one output block is its last coordinate. -/
theorem idx1 (y : S1x1x1x512.Idx) : y = ix4 0 0 0 (y 3) := by
  have h0 : (y 0).val < 1 := (y 0).isLt
  have h1 : (y 1).val < 1 := (y 1).isLt
  have h2 : (y 2).val < 1 := (y 2).isLt
  funext (a : Fin 4)
  match a with
  | 0 => exact Fin.ext (by show (y 0).val = 0; omega)
  | 1 => exact Fin.ext (by show (y 1).val = 0; omega)
  | 2 => exact Fin.ext (by show (y 2).val = 0; omega)
  | 3 => rfl

/-- Where point `t`'s block lies in a result array. -/
theorem place4 (t : Fin (cfgM m hO).N) (y : S1x1x1x512.Idx) :
    (((cfgM m hO).win 4).blk t).view.emb y = ix4 (n0 := 6) (n1 := 24) (n2 := 1) (n3 := 512) (grid0.coords t 0) (grid0.coords t 1) 0 (y 3) := by
  have c0 : (grid0.coords t 0).val < 6 := (grid0.coords t 0).isLt
  have c1 : (grid0.coords t 1).val < 24 := (grid0.coords t 1).isLt
  have h0 := Blocks.w32 (grid0.coords t 0).val (by omega)
  have h1 := Blocks.w32 (grid0.coords t 1).val (by omega)
  have y0 : (y 0).val < 1 := (y 0).isLt
  have y1 : (y 1).val < 1 := (y 1).isLt
  have y2 : (y 2).val < 1 := (y 2).isLt
  funext (a : Fin 4)
  refine Fin.ext ?_
  match a with
  | 0 => show (BitVec.ofNat 32 (grid0.coords t 0).val).toNat * 1 + 1 * (y 0).val = (grid0.coords t 0).val; omega
  | 1 => show (BitVec.ofNat 32 (grid0.coords t 1).val).toNat * 1 + 1 * (y 1).val = (grid0.coords t 1).val; omega
  | 2 => show 0 * 1 + 1 * (y 2).val = 0; omega
  | 3 => show 0 * 512 + 1 * (y 3).val = (y 3).val; omega

/-- Likewise in the other. -/
theorem place5 (t : Fin (cfgM m hO).N) (y : S1x1x1x512.Idx) :
    (((cfgM m hO).win 5).blk t).view.emb y = ix4 (n0 := 6) (n1 := 24) (n2 := 1) (n3 := 512) (grid0.coords t 0) (grid0.coords t 1) 0 (y 3) :=
  place4 m hO t y

/-- An entry of the output array lies in the block of its own grid step. -/
theorem hit (i : S6x24x1x512.Idx) : ix4 (n0 := 6) (n1 := 24) (n2 := 1) (n3 := 512) (grid0.coords (point (i 0) (i 1)) 0) (grid0.coords (point (i 0) (i 1)) 1) 0
    ((ix4 0 0 0 (i 3) : S1x1x1x512.Idx) 3) = i := by
  have h := point_coords (i 0) (i 1)
  have h2 : (i 2).val < 1 := (i 2).isLt
  funext (a : Fin 4)
  match a with
  | 0 => exact h.1
  | 1 => exact h.2
  | 2 => exact Fin.ext (by show 0 = (i 2).val; omega)
  | 3 => rfl

variable (hle : ∀ y, (m (((0 : Dev nD) : Thread nD τ).loc main_arg4) y).toInt ≤ 8192)
include hle

/-- The array of the first output after the last grid step. -/
theorem array4 : (dats m hO hH 0 0).arrAt 4 (cfgM m hO).N = G4 m hO := by
  refine (dats m hO hH 0 0).arrAt_eq_of_emb 4 (G4 m hO) (fun t _ (y : S1x1x1x512.Idx) => ?_) (fun (i : S6x24x1x512.Idx) => ?_)
  · have e := place4 m hO t y
    refine Eq.trans (b := (outsAt0 m hO hH 0 t.val t.isLt).1 y) ?_ ?_
    · exact congrFun (after0_4 m hO hH 0 t) _
    · refine Eq.trans ?_ (congrArg (G4 m hO) e.symm)
      rw [idx1 y]
      refine (Points.results m hO hH hle t _).1.trans ?_
      show _ = Points.least m hO (point (grid0.coords t 0) (grid0.coords t 1)) _
      rw [point_of]
      rfl
  · refine ⟨point (i 0) (i 1), flush0_4 _ _, ?_⟩
    have e := (place4 m hO (point (i 0) (i 1)) (ix4 0 0 0 (i 3))).trans (hit i)
    exact Finset.mem_map.mpr ⟨ix4 0 0 0 (i 3), Finset.mem_univ _, e⟩

/-- The array of the second output after the last grid step. -/
theorem array5 : (dats m hO hH 0 0).arrAt 5 (cfgM m hO).N = G5 m hO := by
  refine (dats m hO hH 0 0).arrAt_eq_of_emb 5 (G5 m hO) (fun t _ (y : S1x1x1x512.Idx) => ?_) (fun (i : S6x24x1x512.Idx) => ?_)
  · have e := place5 m hO t y
    refine Eq.trans (b := (outsAt0 m hO hH 0 t.val t.isLt).2.1 y) ?_ ?_
    · exact congrFun (after0_5 m hO hH 0 t) _
    · refine Eq.trans ?_ (congrArg (G5 m hO) e.symm)
      rw [idx1 y]
      refine (Points.results m hO hH hle t _).2.trans ?_
      show _ = Points.second m hO (point (grid0.coords t 0) (grid0.coords t 1)) _ - Points.least m hO (point (grid0.coords t 0) (grid0.coords t 1)) _
      rw [point_of]
      rfl
  · refine ⟨point (i 0) (i 1), flush0_5 _ _, ?_⟩
    have e := (place5 m hO (point (i 0) (i 1)) (ix4 0 0 0 (i 3))).trans (hit i)
    exact Finset.mem_map.mpr ⟨ix4 0 0 0 (i 3), Finset.mem_univ _, e⟩

end

end Cert.Proof.Arrays
-- ==== Proof.KernelRun.lean ====
/-
  The run of the whole kernel program: its two results, index by index.
-/
module

public import proofs.«01_k».proof.Proof.Arrays

@[expose] public section

namespace Cert.Proof.KernelRun
open Cert.KernelIdeal Cert.KernelIdeal.Gen Cert.Proof.Arrays
open Idealize.ShloMosaic Idealize.ShloMosaic.TcCoe Idealize.SL.Sem
noncomputable section

variable (m : (ℓ : Loc nD τ sig) → Buf (Elt Ideal) ℓ) (ρ : Dev nD → PrngReg) (hO : Ok m) (hH : Hyps m hO)

/-- The tile of 512 tokens that a token is in. -/
def tile (j : Fin 12288) : Fin 24 := ⟨j.val / 512, by omega⟩
/-- The place of a token in its tile. -/
def lane (j : Fin 12288) : Fin 512 := ⟨j.val % 512, by omega⟩

/-- A reshape's value at a token: its tile's entry. -/
theorem flat (g : FVec Ideal S6x24x1x512 .f32) (y : S6x12288.Idx) :
    shapeCast S6x12288 g shapeCasts_S6x24x1x512_S6x12288 y = g (ix4 (n0 := 6) (n1 := 24) (n2 := 1) (n3 := 512) (y 0) (tile (y 1)) 0 (lane (y 1))) := by
  pointwise
  rfl

/-- What the host's reshapes leave, over any contents of the result arrays. -/
theorem tail4 (W : Valuation τ sig (Elt Ideal)) :
    StableHlo.after (List.flatten [hostOps1]) W (Proc.devRef .tc main_v6) = shapeCast S6x12288 (W (Proc.devRef .tc main_v5_0) : FVec Ideal S6x24x1x512 .f32) shapeCasts_S6x24x1x512_S6x12288 := by
  show StableHlo.after hostOps1 W (Proc.devRef .tc main_v6) = _
  entry_read
  rfl

/-- The same of the second result. -/
theorem tail5 (W : Valuation τ sig (Elt Ideal)) :
    StableHlo.after (List.flatten [hostOps1]) W (Proc.devRef .tc main_v7) = shapeCast S6x12288 (W (Proc.devRef .tc main_v5_1) : FVec Ideal S6x24x1x512 .f32) shapeCasts_S6x24x1x512_S6x12288 := by
  show StableHlo.after hostOps1 W (Proc.devRef .tc main_v7) = _
  entry_read
  rfl

variable (hle : ∀ y, (m (((0 : Dev nD) : Thread nD τ).loc main_arg4) y).toInt ≤ 8192)
include hH hle

/-- The program's two results. -/
theorem run : θ_run defs (onTc (τ := τ) (main (F := Ideal))) ⟨m, fun _ => 0, ρ⟩ (fun r =>
      ∀ (b : Fin 6) (j : Fin 12288),
        r.2.mem (((0 : Dev nD) : Thread nD τ).loc main_v6) (ix2 (n0 := 6) (n1 := 12288) b j) = Points.least m hO (point b (tile j)) (lane j)
        ∧ r.2.mem (((0 : Dev nD) : Thread nD τ).loc main_v7) (ix2 (n0 := 6) (n1 := 12288) b j)
            = (Points.second m hO (point b (tile j)) (lane j) - Points.least m hO (point b (tile j)) (lane j) : EReal)) := by
  refine (θ_run defs _ _).mono (fun r h b j => ?_) (run_main m ρ hO hH)
  have r4 : main_v6 ∈ Pipeline.restRefs sig spec0 := Pipeline.mem_restRefs_of main_v6 (by decide) (by decide)
  have h4 := (h 0).2 main_v6 r4
  have r5 : main_v7 ∈ Pipeline.restRefs sig spec0 := Pipeline.mem_restRefs_of main_v7 (by decide) (by decide)
  have h5 := (h 0).2 main_v7 r5
  unfold Pipeline.afterTail at h4 h5
  have e4 := h4.trans (tail4 _)
  have e5 := h5.trans (tail5 _)
  have w4 := Pipeline.withArrays_arr spec0 (launch0 (F := Ideal)).win.arr_inj 0 (V0 m 0) (fun w => (dats m hO hH 0 0).arrAt w (cfgM m hO).N) 4
  have w5 := Pipeline.withArrays_arr spec0 (launch0 (F := Ideal)).win.arr_inj 0 (V0 m 0) (fun w => (dats m hO hH 0 0).arrAt w (cfgM m hO).N) 5
  have f4 := e4.trans (congrArg (fun g : FVec Ideal S6x24x1x512 .f32 => shapeCast S6x12288 g shapeCasts_S6x24x1x512_S6x12288) (w4.trans (array4 m hO hH hle)))
  have f5 := e5.trans (congrArg (fun g : FVec Ideal S6x24x1x512 .f32 => shapeCast S6x12288 g shapeCasts_S6x24x1x512_S6x12288) (w5.trans (array5 m hO hH hle)))
  exact ⟨(congrFun f4 _).trans (flat _ _), (congrFun f5 _).trans (flat _ _)⟩

end

end Cert.Proof.KernelRun
-- ==== Proof.RefTop.lean ====
/-
  The reference's two greatest of the negated distances are the negated two least distances.
-/
module

public import proofs.«01_k».proof.Proof.RefRead
public import proofs.«01_k».proof.Proof.Top2
public import Idealize.ShloMosaic.PureOps.Ideal
public import Idealize.ShloMosaic.PureOps.Ideal.Laws
public import Idealize.ShloMosaic.Lib.SortFacts
public import Idealize.ShloMosaic.Lib.Pointwise

@[expose] public section

namespace Cert.Proof.RefTop
open Cert.ReferenceIdeal Cert.ReferenceIdeal.Gen
open Idealize.ShloMosaic Idealize.ShloMosaic.TcCoe
noncomputable section

/-- The sort's order on negated values is the order of the values. -/
theorem before (a b : EReal) : ((FloatOps.cmpfTotal .gt : Ideal .f32 → Ideal .f32 → BitVec 1) (-a : EReal) (-b : EReal) == 1#1) = decide (a < b) := by
  show (Ideal.cmp .ogt (-a) (-b) == 1#1) = _
  by_cases h : a < b
  · have : (-b : EReal) < -a := EReal.neg_lt_neg_iff.2 h
    simp [Ideal.cmp, h]
  · have : ¬ (-b : EReal) < -a := fun k => h (EReal.neg_lt_neg_iff.1 k)
    simp [Ideal.cmp, h]

/-- The two greatest entries of a row of negated values. -/
theorem two (x : FVec Ideal S6x12288x8192 .f32) (b : Fin 6) (t : Fin 12288) (f : Nat → EReal)
    (hf : ∀ k : Fin 8192, x (ix3 (n0 := 6) (n1 := 12288) (n2 := 8192) b t k) = (-f k.val : EReal)) :
    (Host.topK S6x12288x2 2 (FloatOps.cmpfTotal .gt) x sliceFits_S6x12288x8192_S6x12288x2).1 (ix3 (n0 := 6) (n1 := 12288) (n2 := 2) b t 0)
        = (-Top2.least (Finset.range 8192) f : EReal)
      ∧ (Host.topK S6x12288x2 2 (FloatOps.cmpfTotal .gt) x sliceFits_S6x12288x8192_S6x12288x2).1 (ix3 (n0 := 6) (n1 := 12288) (n2 := 2) b t 1)
        = (-Top2.second (Finset.range 8192) f : EReal) := by
  let R : Fin 8192 → Fin 8192 → Bool := fun k k' =>
    ((FloatOps.cmpfTotal .gt : Ideal .f32 → Ideal .f32 → BitVec 1) (x (ix3 (n0 := 6) (n1 := 12288) (n2 := 8192) b t k)) (x (ix3 (n0 := 6) (n1 := 12288) (n2 := 8192) b t k')) == 1#1)
  have hR : ∀ k k', R k k' = decide (f k.val < f k'.val) := fun k k' => by
    show (FloatOps.cmpfTotal .gt _ _ == 1#1) = _
    rw [hf, hf, before]
  have hm : ∀ i j : Fin 8192, i < j → f (sortedFrom R i).val ≤ f (sortedFrom R j).val := fun i j hij => by
    have h := sortedFrom_noInversion R R (fun a b h => by rw [hR] at h ⊢; simp only [decide_eq_true_eq, decide_eq_false_iff_not] at *; exact lt_asymm h) (fun _ _ h => h)
      (fun a b c h k => by rw [hR] at h k ⊢; simp only [decide_eq_false_iff_not, not_lt] at *; exact k.trans h) i j hij
    rw [hR] at h
    simpa using h
  have e := Top2.two_of_sorted (sortedFrom_surjective R) hm 0 1 rfl rfl
  have p : ∀ k : Fin 2, (Host.topK S6x12288x2 2 (FloatOps.cmpfTotal .gt) x sliceFits_S6x12288x8192_S6x12288x2).1 (ix3 (n0 := 6) (n1 := 12288) (n2 := 2) b t k)
      = x (ix3 (n0 := 6) (n1 := 12288) (n2 := 8192) b t (sortedFrom R ⟨k.val, by omega⟩)) := fun k => by
    unfold Host.topK
    dsimp only
    refine (extractStridedSlice_apply _ _ _ _ (ix3 (n0 := 6) (n1 := 12288) (n2 := 8192) b t ⟨k.val, by omega⟩) (fun (a : Fin 3) => ?_)).trans ?_
    · match a with
      | 0 => show b.val = 0 + b.val; omega
      | 1 => show t.val = 0 + t.val; omega
      | 2 => show k.val = 0 + k.val; omega
    · dsimp only [Host.sort2]
      rw [dif_pos (show 2 < S6x12288x8192.rank by decide)]
      have al : ∀ q k' : Fin 8192, (ix3 (n0 := 6) (n1 := 12288) (n2 := 8192) b t q).along (2 : Fin 3) k' = ix3 (n0 := 6) (n1 := 12288) (n2 := 8192) b t k' := fun q k' => by
        funext (a : Fin 3)
        match a with
        | 0 => rfl
        | 1 => rfl
        | 2 => rfl
      refine (congrArg x (al _ _)).trans ?_
      refine congrArg (fun R : Fin 8192 → Fin 8192 → Bool => x (ix3 (n0 := 6) (n1 := 12288) (n2 := 8192) b t (sortedFrom R ⟨k.val, by omega⟩))) ?_
      funext q q'
      exact congrArg₂ (fun u v => (FloatOps.cmpfTotal .gt : Ideal .f32 → Ideal .f32 → BitVec 1) (x u) (x v) == 1#1) (al _ q) (al _ q')
  rw [p 0, p 1, hf, hf, e.1, e.2]
  exact ⟨rfl, rfl⟩

end

end Cert.Proof.RefTop
-- ==== Proof.RefDist.lean ====
/-
  The distances that the reference negates and sorts, index by index.
-/
module

public import proofs.«01_k».proof.Proof.RefTop

@[expose] public section

namespace Cert.Proof.RefDist
open Cert.ReferenceIdeal Cert.ReferenceIdeal.Gen Cert.ReferenceIdeal.Read
open Idealize.ShloMosaic Idealize.ShloMosaic.TcCoe
noncomputable section

/-- The word 2.0 as a number. -/
abbrev two : EReal := Ideal.ofBits .f32 0x40000000#32

/-- The reference's distance of token `(b, t)` and code `j`, masked. -/
def dist (x1 : FVec Ideal S6x12288 .f32) (x3 : FVec Ideal S8192 .f32) (x4 : IVec S6 32) (r0 : FVec Ideal S6x12288x16 .f32)
    (r1 : FVec Ideal S8192x16 .f32) (b : Fin 6) (t : Fin 12288) (j : Nat) : EReal :=
  if h : j < 8192 then
    if (j : Int) < (x4 (ix1 (n0 := 6) b)).toInt then
      ((x1 (ix2 (n0 := 6) (n1 := 12288) b t) * x1 (ix2 (n0 := 6) (n1 := 12288) b t)) * (∑ x : Fin 16, r0 (ix3 (n0 := 6) (n1 := 12288) (n2 := 16) b t x) * r0 (ix3 (n0 := 6) (n1 := 12288) (n2 := 16) b t x) : EReal)
        + (x3 (ix1 (n0 := 8192) ⟨j, h⟩) * x3 (ix1 (n0 := 8192) ⟨j, h⟩)) * (∑ x : Fin 16, r1 (ix2 (n0 := 8192) (n1 := 16) ⟨j, h⟩ x) * r1 (ix2 (n0 := 8192) (n1 := 16) ⟨j, h⟩ x) : EReal) : EReal)
      - two * (x1 (ix2 (n0 := 6) (n1 := 12288) b t) * x3 (ix1 (n0 := 8192) ⟨j, h⟩)) * (∑ x : Fin 16, r0 (ix3 (n0 := 6) (n1 := 12288) (n2 := 16) b t x) * r1 (ix2 (n0 := 8192) (n1 := 16) ⟨j, h⟩ x) : EReal)
    else ⊤
  else ⊤

/-- What the reference sorts are these distances, negated. -/
theorem negated (x1 : FVec Ideal S6x12288 .f32) (x3 : FVec Ideal S8192 .f32) (x4 : IVec S6 32) (r0 : FVec Ideal S6x12288x16 .f32)
    (r1 : FVec Ideal S8192x16 .f32) (b : Fin 6) (t : Fin 12288) (k : Fin 8192) :
    val_main_v33 (F := Ideal) x1 x3 x4 r0 r1 (ix3 (n0 := 6) (n1 := 12288) (n2 := 8192) b t k) = (-dist x1 x3 x4 r0 r1 b t k.val : EReal) := by
  pointwise [val_main_v33, val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1, val_main_cst_2, val_main_call0_v0, val_main_call0_v1, val_main_call0_v2]
  have hw : (BitVec.ofNat 32 k.val).toInt = (k.val : Int) := by
    rw [BitVec.toInt_eq_toNat_cond, BitVec.toNat_ofNat]
    have : k.val % 2 ^ 32 = k.val := Nat.mod_eq_of_lt (by omega)
    rw [this, if_pos (by omega)]
  have hc : IntOp.cmpi CmpIPredicate.slt (BitVec.ofNat 32 k.val) (x4 (ix1 (n0 := 6) b))
      = BitVec.ofBool (decide ((k.val : Int) < (x4 (ix1 (n0 := 6) b)).toInt)) := by rw [← hw]; rfl
  have ht : (id (constant S_ FTy.f32 2139095040#32 : FVec Ideal S_ .f32) ix0 : EReal) = ⊤ := by
    show Ideal.ofBits FTy.f32 2139095040#32 = ⊤
    simp [Ideal.ofBits, Ideal.ieee]
  rw [hc, ht, dist, dif_pos k.isLt]
  by_cases hd : (k.val : Int) < (x4 (ix1 (n0 := 6) b)).toInt
  · rw [if_pos hd, decide_eq_true hd]; rfl
  · rw [if_neg hd, decide_eq_false hd]; rfl

/-- The reference's two results, index by index. -/
theorem results (x1 : FVec Ideal S6x12288 .f32) (x3 : FVec Ideal S8192 .f32) (x4 : IVec S6 32) (r0 : FVec Ideal S6x12288x16 .f32)
    (r1 : FVec Ideal S8192x16 .f32) (b : Fin 6) (t : Fin 12288) :
    val_main_v36 (F := Ideal) x1 x3 x4 r0 r1 (ix2 (n0 := 6) (n1 := 12288) b t) = Top2.least (Finset.range 8192) (dist x1 x3 x4 r0 r1 b t)
      ∧ val_main_v40 (F := Ideal) x1 x3 x4 r0 r1 (ix2 (n0 := 6) (n1 := 12288) b t)
        = (Top2.second (Finset.range 8192) (dist x1 x3 x4 r0 r1 b t) - Top2.least (Finset.range 8192) (dist x1 x3 x4 r0 r1 b t) : EReal) := by
  have h := RefTop.two (val_main_v33 (F := Ideal) x1 x3 x4 r0 r1) b t (dist x1 x3 x4 r0 r1 b t) (negated x1 x3 x4 r0 r1 b t)
  change val_main_values (F := Ideal) x1 x3 x4 r0 r1 _ = _ ∧ val_main_values (F := Ideal) x1 x3 x4 r0 r1 _ = _ at h
  have h1 : val_main_v36 (F := Ideal) x1 x3 x4 r0 r1 (ix2 (n0 := 6) (n1 := 12288) b t) = Top2.least (Finset.range 8192) (dist x1 x3 x4 r0 r1 b t) := by
    pointwise [val_main_v36, val_main_v35, val_main_v34]
    rw [h.1, neg_neg]
  have h2 : val_main_v39 (F := Ideal) x1 x3 x4 r0 r1 (ix2 (n0 := 6) (n1 := 12288) b t) = Top2.second (Finset.range 8192) (dist x1 x3 x4 r0 r1 b t) := by
    pointwise [val_main_v39, val_main_v38, val_main_v37]
    rw [h.2, neg_neg]
  refine ⟨h1, ?_⟩
  rw [val_main_v40_apply, h1, h2]
  rfl

end

end Cert.Proof.RefDist
-- ==== Proof.Finite.lean ====
/-
  The precondition `finite` read entry by entry, and sums and products of finite extended reals.
-/
module

public import proofs.«01_k».proof.Defs
public import proofs.«01_k».proof.Proof.Gen.Pre_finite
public import proofs.«01_k».proof.Proof.Table
public import Idealize.ShloMosaic.PureOps.Ideal
public import Idealize.ShloMosaic.Lib.Pointwise

@[expose] public section

namespace Cert.Proof.Finite
open Idealize.ShloMosaic Cert.Pre_finite
noncomputable section

/-- An extended real that is a real. -/
def Real' (x : EReal) : Prop := ∃ r : ℝ, x = (r : EReal)

/-- A product of reals is a real. -/
theorem Real'.mul {x y : EReal} : Real' x → Real' y → Real' (x * y) := fun ⟨a, ha⟩ ⟨b, hb⟩ => ⟨a * b, by rw [ha, hb, EReal.coe_mul]⟩

/-- A sum of two reals is a real. -/
theorem Real'.add {x y : EReal} : Real' x → Real' y → Real' (x + y) := fun ⟨a, ha⟩ ⟨b, hb⟩ => ⟨a + b, by rw [ha, hb, EReal.coe_add]⟩

/-- A finite sum of reals is a real. -/
theorem Real'.sum {n : Nat} {f : Fin n → EReal} (h : ∀ x, Real' (f x)) : Real' (∑ x, f x) := by
  refine Finset.sum_induction f Real' (fun _ _ => Real'.add) ⟨0, rfl⟩ fun x _ => h x

/-- A masked distance is `⊤`: infinity less a real, next to a real. -/
theorem masked {x t : EReal} : Real' x → Real' t → x + ⊤ - t = ⊤ := fun ⟨a, ha⟩ ⟨b, hb⟩ => by
  rw [ha, hb, EReal.coe_add_top, EReal.top_sub_coe]

/-- An absolute value below infinity is that of a real. -/
theorem of_lt {x y : EReal} (hy : y = ⊤) (h : FloatOps.cmpf (F := Ideal) (φ := .f32) .olt (FloatOps.hostAbsf (F := Ideal) (φ := .f32) x) y = 1#1) : Real' x := by
  subst hy
  have h1 : max x (-x) < ⊤ := by
    by_contra hn
    have : FloatOps.cmpf (F := Ideal) (φ := .f32) .olt (FloatOps.hostAbsf (F := Ideal) (φ := .f32) x) ⊤ = 0#1 := by
      show BitVec.ofBool (decide (max x (-x) < ⊤)) = 0#1
      rw [decide_eq_false hn]; rfl
    rw [this] at h
    exact absurd h (by decide)
  induction x using EReal.rec with
  | bot => simp at h1
  | coe r => exact ⟨r, rfl⟩
  | top => simp at h1

/-- The word of the f32 infinity is `⊤`. -/
theorem inf_word : Ideal.ofBits FTy.f32 0x7F800000#32 = ⊤ := by simp [Ideal.ofBits, Ideal.ieee]

variable (a0 : FVec Ideal S6x12288x16 .f32) (a1 : FVec Ideal S6x12288 .f32) (a2 : FVec Ideal S8192x16 .f32) (a3 : FVec Ideal S8192 .f32) (a4 : IVec S6 32)

/-- The first array's entries are finite where its part of the precondition holds. -/
theorem entry0 (h : (fn (F := Ideal) a0 a1 a2 a3 a4).2.1 = fun _ => 1#1) (y : S6x12288x16.Idx) : Real' (a0 y) := of_lt inf_word (congrFun h y)

/-- The same of the second array. -/
theorem entry1 (h : (fn (F := Ideal) a0 a1 a2 a3 a4).2.2.1 = fun _ => 1#1) (y : S6x12288.Idx) : Real' (a1 y) := of_lt inf_word (congrFun h y)

/-- The same of the third array. -/
theorem entry2 (h : (fn (F := Ideal) a0 a1 a2 a3 a4).2.2.2.1 = fun _ => 1#1) (y : S8192x16.Idx) : Real' (a2 y) := of_lt inf_word (congrFun h y)

/-- The same of the fourth array. -/
theorem entry3 (h : (fn (F := Ideal) a0 a1 a2 a3 a4).2.2.2.2 = fun _ => 1#1) (y : S8192.Idx) : Real' (a3 y) := of_lt inf_word (congrFun h y)

/-- And every word of the last array, read signed, is at most 8192. -/
theorem entry4 (h : (fn (F := Ideal) a0 a1 a2 a3 a4).1 = fun _ => 1#1) (y : S6.Idx) : (a4 y).toInt ≤ 8192 :=
  Table.le_of_cmp _ (congrFun h y)

end

end Cert.Proof.Finite
-- ==== Proof.Equation.lean ====
/-
  The equation: on valid codes the distances the kernel takes the least two of are the reference's. The codes the kernel
  leaves out are masked in the reference, and the codes past the valid ones in the last chunk of 128 are masked in both,
  where the row's number of valid codes leaves none or the arguments are finite.
-/
module

public import proofs.«01_k».proof.Proof.Points
public import proofs.«01_k».proof.Proof.RefDist
public import proofs.«01_k».proof.Proof.Finite
public import Idealize.ShloMosaic.Lib.Pointwise

@[expose] public section

namespace Cert.Proof.Equation
open Cert.KernelIdeal Cert.KernelIdeal.Gen
open Idealize.ShloMosaic Idealize.ShloMosaic.TcCoe
noncomputable section

/-- The token's norm, as the kernel computes it. -/
theorem token_norm (x0 : FVec Ideal S1x16x512 .fp8e4m3) (x1 : FVec Ideal S1x1x1x512 .f32) (l : Fin 512) :
    k0_pay38 (F := Ideal) x0 x1 (ix2 (n0 := 1) (n1 := 512) 0 l)
      = ((x1 (ix4 (n0 := 1) (n1 := 1) (n2 := 1) (n3 := 512) 0 0 0 l) * x1 (ix4 (n0 := 1) (n1 := 1) (n2 := 1) (n3 := 512) 0 0 0 l))
          * (∑ x : Fin 16, x0 (ix3 (n0 := 1) (n1 := 16) (n2 := 512) 0 x l) * x0 (ix3 (n0 := 1) (n1 := 16) (n2 := 512) 0 x l) : EReal) : EReal) := by
  pointwise [k0_pay38, k0_pay37, k0_pay36]

/-- Twice the token's scale. -/
theorem token_scale (x1 : FVec Ideal S1x1x1x512 .f32) (l : Fin 512) :
    k0_pay39 (F := Ideal) x1 (ix2 (n0 := 1) (n1 := 512) 0 l) = (RefDist.two * x1 (ix4 (n0 := 1) (n1 := 1) (n2 := 1) (n3 := 512) 0 0 0 l) : EReal) := by
  pointwise [k0_pay39, k0_pay37]

/-- The token's codes. -/
theorem token_codes (x0 : FVec Ideal S1x16x512 .fp8e4m3) (l : Fin 512) (x : Fin 16) :
    k0_pay36 (F := Ideal) x0 (ix2 (n0 := 16) (n1 := 512) x l) = x0 (ix3 (n0 := 1) (n1 := 16) (n2 := 512) 0 x l) := by
  pointwise [k0_pay36]

/-- The norm of code `j`. -/
theorem code_norm (cd : FVec Ideal S8192x16 .fp8e4m3) (sc : FVec Ideal S8192x1 .f32) (j : Fin 8192) :
    k0_pay35 (F := Ideal) cd sc sc (ix2 (n0 := 8192) (n1 := 1) j 0)
      = ((sc (ix2 (n0 := 8192) (n1 := 1) j 0) * sc (ix2 (n0 := 8192) (n1 := 1) j 0))
          * (∑ x : Fin 16, cd (ix2 (n0 := 8192) (n1 := 16) j x) * cd (ix2 (n0 := 8192) (n1 := 16) j x) : EReal) : EReal) := by
  pointwise [k0_pay35]

/-- On a valid code the kernel's distance is the reference's. -/
theorem dist_eq (w : BitVec 32) (x0 : FVec Ideal S1x16x512 .fp8e4m3) (x1 : FVec Ideal S1x1x1x512 .f32) (cd : FVec Ideal S8192x16 .fp8e4m3)
    (sc : FVec Ideal S8192x1 .f32) (l : Fin 512) (a0 : FVec Ideal S6x12288x16 .f32) (a1 : FVec Ideal S6x12288 .f32) (a2 : FVec Ideal S8192x16 .f32) (a3 : FVec Ideal S8192 .f32)
    (a4 : IVec S6 32) (b : Fin 6) (t : Fin 12288)
    (h0 : ∀ x : Fin 16, (x0 (ix3 (n0 := 1) (n1 := 16) (n2 := 512) 0 x l) : EReal) = a0 (ix3 (n0 := 6) (n1 := 12288) (n2 := 16) b t x))
    (h1 : x1 (ix4 (n0 := 1) (n1 := 1) (n2 := 1) (n3 := 512) 0 0 0 l) = a1 (ix2 (n0 := 6) (n1 := 12288) b t))
    (h2 : ∀ (j : Fin 8192) (x : Fin 16), (cd (ix2 (n0 := 8192) (n1 := 16) j x) : EReal) = a2 (ix2 (n0 := 8192) (n1 := 16) j x))
    (h3 : ∀ j : Fin 8192, sc (ix2 (n0 := 8192) (n1 := 1) j 0) = a3 (ix1 (n0 := 8192) j))
    (h4 : w = a4 (ix1 (n0 := 6) b)) (j : Nat) (hj : j < 8192) (hw : (j : Int) < w.toInt) :
    Loop.tokDist w x0 x1 cd sc (k0_pay35 (F := Ideal) cd sc sc) l j = RefDist.dist a1 a3 a4 a0 a2 b t j := by
  unfold Loop.tokDist Loop.dist RefDist.dist
  rw [dif_pos hj, dif_pos hj, if_pos hw, if_pos (h4 ▸ hw)]
  have e1 := token_norm x0 x1 l
  have e2 := token_scale x1 l
  have e3 := code_norm cd sc ⟨j, hj⟩
  have e4 : ∀ x : Fin 16, (k0_pay36 (F := Ideal) x0 (ix2 (n0 := 16) (n1 := 512) x l) : EReal) = a0 (ix3 (n0 := 6) (n1 := 12288) (n2 := 16) b t x) :=
    fun x => (token_codes x0 l x).trans (h0 x)
  simp only [h0, h1] at e1
  simp only [h1] at e2
  simp only [h2, h3] at e3
  simp only [e1, e2, e3, e4, h2, h3]
  rw [Finset.sum_congr rfl (fun x _ => mul_comm (a2 (ix2 (n0 := 8192) (n1 := 16) ⟨j, hj⟩ x) : EReal) (a0 (ix3 (n0 := 6) (n1 := 12288) (n2 := 16) b t x)))]
  rw [mul_assoc RefDist.two]

/-- Two is a real. -/
theorem two_real : Finite.Real' RefDist.two := ⟨2, by
  unfold RefDist.two
  simp [Ideal.ofBits, Ideal.ieee]
  rw [← EReal.coe_mul]
  norm_num⟩

/-- On a code past the valid ones the kernel's distance is `⊤`, if the arguments are finite. -/
theorem dist_top (w : BitVec 32) (x0 : FVec Ideal S1x16x512 .fp8e4m3) (x1 : FVec Ideal S1x1x1x512 .f32) (cd : FVec Ideal S8192x16 .fp8e4m3)
    (sc : FVec Ideal S8192x1 .f32) (l : Fin 512)
    (r0 : ∀ x : Fin 16, Finite.Real' (x0 (ix3 (n0 := 1) (n1 := 16) (n2 := 512) 0 x l))) (r1 : Finite.Real' (x1 (ix4 (n0 := 1) (n1 := 1) (n2 := 1) (n3 := 512) 0 0 0 l)))
    (r2 : ∀ (j : Fin 8192) (x : Fin 16), Finite.Real' (cd (ix2 (n0 := 8192) (n1 := 16) j x))) (r3 : ∀ j : Fin 8192, Finite.Real' (sc (ix2 (n0 := 8192) (n1 := 1) j 0)))
    (j : Nat) (hw : ¬(j : Int) < w.toInt) :
    Loop.tokDist w x0 x1 cd sc (k0_pay35 (F := Ideal) cd sc sc) l j = ⊤ := by
  unfold Loop.tokDist Loop.dist
  by_cases hj : j < 8192
  · rw [dif_pos hj, if_neg hw]
    have e1 := token_norm x0 x1 l
    have e2 := token_scale x1 l
    refine Finite.masked ?_ ?_
    · rw [e1]
      exact (r1.mul r1).mul (Finite.Real'.sum fun x => (r0 x).mul (r0 x))
    · rw [e2]
      refine ((Finite.Real'.mul two_real r1).mul (r3 _)).mul (Finite.Real'.sum fun x => (r2 _ x).mul ?_)
      exact (congrArg Finite.Real' (token_codes x0 l x)).mpr (r0 x)
  · rw [dif_neg hj]

/-- The two results of a row, where the kernel's distance is `⊤` on every code past the valid ones in the row's chunks. -/
theorem block_eq (w : BitVec 32) (x0 : FVec Ideal S1x16x512 .fp8e4m3) (x1 : FVec Ideal S1x1x1x512 .f32) (cd : FVec Ideal S8192x16 .fp8e4m3)
    (sc : FVec Ideal S8192x1 .f32) (l : Fin 512) (a0 : FVec Ideal S6x12288x16 .f32) (a1 : FVec Ideal S6x12288 .f32) (a2 : FVec Ideal S8192x16 .f32) (a3 : FVec Ideal S8192 .f32)
    (a4 : IVec S6 32) (b : Fin 6) (t : Fin 12288)
    (h0 : ∀ x : Fin 16, (x0 (ix3 (n0 := 1) (n1 := 16) (n2 := 512) 0 x l) : EReal) = a0 (ix3 (n0 := 6) (n1 := 12288) (n2 := 16) b t x))
    (h1 : x1 (ix4 (n0 := 1) (n1 := 1) (n2 := 1) (n3 := 512) 0 0 0 l) = a1 (ix2 (n0 := 6) (n1 := 12288) b t))
    (h2 : ∀ (j : Fin 8192) (x : Fin 16), (cd (ix2 (n0 := 8192) (n1 := 16) j x) : EReal) = a2 (ix2 (n0 := 8192) (n1 := 16) j x))
    (h3 : ∀ j : Fin 8192, sc (ix2 (n0 := 8192) (n1 := 1) j 0) = a3 (ix1 (n0 := 8192) j))
    (h4 : w = a4 (ix1 (n0 := 6) b)) (hle : w.toInt ≤ 8192)
    (hm : ∀ j : Nat, j < 128 * Words.chunks w.toInt → ¬(j : Int) < w.toInt → Loop.tokDist w x0 x1 cd sc (k0_pay35 (F := Ideal) cd sc sc) l j = ⊤) :
    Block.least w x0 x1 cd sc (k0_pay35 (F := Ideal) cd sc sc) l = Top2.least (Finset.range 8192) (RefDist.dist a1 a3 a4 a0 a2 b t)
      ∧ Block.second w x0 x1 cd sc (k0_pay35 (F := Ideal) cd sc sc) l = Top2.second (Finset.range 8192) (RefDist.dist a1 a3 a4 a0 a2 b t) := by
  have hn : ∀ j : Nat, (j : Int) < w.toInt → j < 128 * Words.chunks w.toInt := by
    intro j
    unfold Words.chunks
    omega
  have hc : 128 * Words.chunks w.toInt ≤ 8192 := by unfold Words.chunks; omega
  have ht : ∀ j : Nat, j < 8192 → ¬(j : Int) < w.toInt → RefDist.dist a1 a3 a4 a0 a2 b t j = ⊤ := by
    intro j hj hw
    unfold RefDist.dist
    rw [dif_pos hj, if_neg (h4 ▸ hw)]
  have e1 := Top2.two_congr (s := Finset.range (128 * Words.chunks w.toInt)) (f := Loop.tokDist w x0 x1 cd sc (k0_pay35 (F := Ideal) cd sc sc) l)
    (g := RefDist.dist a1 a3 a4 a0 a2 b t) fun j hj => by
      have hj' := Finset.mem_range.1 hj
      by_cases hw : (j : Int) < w.toInt
      · exact dist_eq w x0 x1 cd sc l a0 a1 a2 a3 a4 b t h0 h1 h2 h3 h4 j (by omega) hw
      · exact (hm j hj' hw).trans (ht j (by omega) hw).symm
  have e2 := Top2.two_of_top (s := Finset.range (128 * Words.chunks w.toInt)) (t := Finset.range 8192) (f := RefDist.dist a1 a3 a4 a0 a2 b t)
    (Finset.range_mono hc) fun j hj hs => ht j (Finset.mem_range.1 hj) fun h => hs (Finset.mem_range.2 (hn j h))
  exact ⟨e1.1.trans e2.1.symm, e1.2.trans e2.2.symm⟩

end

end Cert.Proof.Equation
-- ==== Proof.RefRegion.lean ====
/-
  What the reference's one region leaves (the codes, widened), and the run of the reference: its two results, index by
  index.
-/
module

public import proofs.«01_k».proof.Proof.RefDist
public import Idealize.ShloMosaic.Lib.Pipeline.ValueKit
public import Idealize.ShloMosaic.Lib.VecWindow

@[expose] public section

namespace Cert.Proof.RefRegion
open Cert.ReferenceIdeal Cert.ReferenceIdeal.Gen Cert.ReferenceIdeal.Value Cert.ReferenceIdeal.Read
open Idealize.ShloMosaic Idealize.ShloMosaic.TcCoe Idealize.SL.Sem
noncomputable section

variable (m : (ℓ : Loc nD τ sig) → Buf (Elt Ideal) ℓ) (c : Dev nD)

/-- The token codes as numbers: the cast is the identity over the extended reals. -/
abbrev tokens : FVec Ideal S6x12288x16 .f32 := fun (y : S6x12288x16.Idx) => (m ((c : Thread nD τ).loc main_arg0) y : EReal)

/-- The codebook as numbers. -/
abbrev book : FVec Ideal S8192x16 .f32 := fun (y : S8192x16.Idx) => (m ((c : Thread nD τ).loc main_arg2) y : EReal)

/-- The three zero offsets, as a constant function. -/
theorem hz3 : (![0, 0, 0] : Fin 3 → Nat) = fun _ => 0 := funext fun a => by fin_cases a <;> rfl
/-- The two zero offsets, as a constant function. -/
theorem hz2 : (![0, 0] : Fin 2 → Nat) = fun _ => 0 := funext fun a => by fin_cases a <;> rfl

/-- The codes as the region finds them. -/
theorem V_tokens (y : S6x12288x16.Idx) : (V m c main_v0 y : EReal) = tokens m c y := by
  show StableHlo.after hostOps0 (fun b => m (c, b)) (Proc.devRef .tc main_v0) _ = _
  entry_read
  rfl

/-- The codebook as the region finds it. -/
theorem V_book (y : S8192x16.Idx) : (V m c main_v1 y : EReal) = book m c y := by
  show StableHlo.after hostOps0 (fun b => m (c, b)) (Proc.devRef .tc main_v1) _ = _
  entry_read
  rfl

/-- A cell's widening to f32 is the identity too. -/
theorem widen0 (v : FVec Ideal S6x12288x16 .fp8e4m3) (y : S6x12288x16.Idx) : (k0_pay1 (F := Ideal) v y : EReal) = v y := by
  unfold k0_pay1
  rw [shapeCast_self]
  rfl

/-- The widened code array has the entries of the codes. -/
theorem widen1 (v : FVec Ideal S8192x16 .fp8e4m3) (y : S8192x16.Idx) : (k0_pay2 (F := Ideal) v y : EReal) = v y := by
  unfold k0_pay2
  rw [shapeCast_self]
  rfl

/-- The region's first array. -/
theorem region0 : (reg_main_v2_0 m c : FVec Ideal S6x12288x16 .f32) = tokens m c := by
  unfold reg_main_v2_0
  refine (dats m 0 c).arrAt_eq_of_emb 2 (tokens m c) (fun t _ (y : S6x12288x16.Idx) => ?_) (fun (i : S6x12288x16.Idx) => ?_)
  · refine Eq.trans (b := out0_2 (iblk m c 0 t) (iblk m c 1 t) y) (congrFun (after0_2 m c t) _) ?_
    unfold out0_2
    rw [View.canon_unit_zero hz3]
    simp only [View.ld_unit_zero (S := S6x12288x16) hz3]
    refine Eq.trans ?_ (V_tokens m c (((View.whole main_v2_0).slice ((win0 2).rect t)).emb y))
    exact (widen0 (iblk m c 0 t) y).trans rfl
  · refine ⟨⟨0, by decide⟩, flush0_2 _, ?_⟩
    refine Finset.mem_map.mpr ⟨i, Finset.mem_univ _, ?_⟩
    funext (a : Fin 3)
    refine Fin.ext ?_
    match a with
    | 0 => show 0 * 6 + 1 * (i 0).val = (i 0).val; omega
    | 1 => show 0 * 12288 + 1 * (i 1).val = (i 1).val; omega
    | 2 => show 0 * 16 + 1 * (i 2).val = (i 2).val; omega

/-- The region's second array. -/
theorem region1 : (reg_main_v2_1 m c : FVec Ideal S8192x16 .f32) = book m c := by
  unfold reg_main_v2_1
  refine (dats m 0 c).arrAt_eq_of_emb 3 (book m c) (fun t _ (y : S8192x16.Idx) => ?_) (fun (i : S8192x16.Idx) => ?_)
  · refine Eq.trans (b := out0_3 (iblk m c 0 t) (iblk m c 1 t) y) (congrFun (after0_3 m c t) _) ?_
    unfold out0_3
    rw [View.canon_unit_zero hz2]
    simp only [View.ld_unit_zero (S := S8192x16) hz2]
    refine Eq.trans ?_ (V_book m c (((View.whole main_v2_1).slice ((win0 3).rect t)).emb y))
    exact (widen1 (iblk m c 1 t) y).trans rfl
  · refine ⟨⟨0, by decide⟩, flush0_3 _, ?_⟩
    refine Finset.mem_map.mpr ⟨i, Finset.mem_univ _, ?_⟩
    funext (a : Fin 2)
    refine Fin.ext ?_
    match a with
    | 0 => show 0 * 8192 + 1 * (i 0).val = (i 0).val; omega
    | 1 => show 0 * 16 + 1 * (i 1).val = (i 1).val; omega

/-- The reference's distance in its arguments. -/
def dist (b : Fin 6) (t : Fin 12288) : Nat → EReal :=
  RefDist.dist (m ((c : Thread nD τ).loc main_arg1)) (m ((c : Thread nD τ).loc main_arg3)) (m ((c : Thread nD τ).loc main_arg4)) (tokens m c) (book m c) b t

/-- The run of the reference. -/
theorem run (ρ : Dev nD → PrngReg) :
    θ_run defs (onTc (τ := τ) (main (F := Ideal))) ⟨m, fun _ => 0, ρ⟩ fun r => ∀ c : Dev nD,
      (∀ (b : Fin 6) (t : Fin 12288),
        r.2.mem ((c.tc : Thread nD τ).loc main_v36) (ix2 (n0 := 6) (n1 := 12288) b t) = Top2.least (Finset.range 8192) (dist m c b t)
        ∧ r.2.mem ((c.tc : Thread nD τ).loc main_v40) (ix2 (n0 := 6) (n1 := 12288) b t)
            = (Top2.second (Finset.range 8192) (dist m c b t) - Top2.least (Finset.range 8192) (dist m c b t) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h36, h40, ha⟩ := h c
  refine ⟨fun b t => ?_, ha⟩
  have e := RefDist.results (m ((c : Thread nD τ).loc main_arg1)) (m ((c : Thread nD τ).loc main_arg3)) (m ((c : Thread nD τ).loc main_arg4)) (reg_main_v2_0 m c) (reg_main_v2_1 m c) b t
  have p36 : r.2.mem ((c.tc : Thread nD τ).loc main_v36) = val_main_v36 (F := Ideal) (m ((c : Thread nD τ).loc main_arg1)) (m ((c : Thread nD τ).loc main_arg3)) (m ((c : Thread nD τ).loc main_arg4)) (reg_main_v2_0 m c) (reg_main_v2_1 m c) := h36
  have p40 : r.2.mem ((c.tc : Thread nD τ).loc main_v40) = val_main_v40 (F := Ideal) (m ((c : Thread nD τ).loc main_arg1)) (m ((c : Thread nD τ).loc main_arg3)) (m ((c : Thread nD τ).loc main_arg4)) (reg_main_v2_0 m c) (reg_main_v2_1 m c) := h40
  have d : RefDist.dist (m ((c : Thread nD τ).loc main_arg1)) (m ((c : Thread nD τ).loc main_arg3)) (m ((c : Thread nD τ).loc main_arg4)) (reg_main_v2_0 m c) (reg_main_v2_1 m c) b t = dist m c b t := by
    unfold dist
    exact congrArg₂ (fun (u : FVec Ideal S6x12288x16 .f32) (v : FVec Ideal S8192x16 .f32) => RefDist.dist (m ((c : Thread nD τ).loc main_arg1)) (m ((c : Thread nD τ).loc main_arg3)) (m ((c : Thread nD τ).loc main_arg4)) u v b t) (region0 m c) (region1 m c)
  rw [d] at e
  exact ⟨(congrFun p36 _).trans e.1, (congrFun p40 _).trans e.2⟩

end

end Cert.Proof.RefRegion
-- ==== Proof.Algebraic.lean ====
/-
  The two claims about values. Where the arguments are finite, the kernel and the reference leave equal results in every
  row. Whatever the arguments hold, they do so in the rows whose number of valid codes fills whole chunks of 128.
-/
module

public import proofs.«01_k».proof.Defs
public import proofs.«01_k».proof.Proof.KernelRun
public import proofs.«01_k».proof.Proof.Equation
public import proofs.«01_k».proof.Proof.RefRegion
public import proofs.«01_k».proof.Proof.Table
public import proofs.«01_k».proof.Proof.Gen.Pre_in_range
public import proofs.«01_k».proof.Proof.Gen.On_whole_chunks

@[expose] public section

namespace Cert.Proof.Algebraic
open Idealize.ShloMosaic Idealize.ShloMosaic.TcCoe Idealize.SL.Sem
noncomputable section

/-- A word whose low seven bits are zero is a multiple of 128. -/
theorem dvd_of_and (w : BitVec 32) (h : w &&& 127#32 = 0#32) : (128 : Int) ∣ w.toInt := by
  have h1 : w.toNat % 128 = 0 := by
    have := congrArg BitVec.toNat h
    rw [BitVec.toNat_and] at this
    have e : (127#32 : BitVec 32).toNat = 2 ^ 7 - 1 := by decide
    rw [e, Nat.and_two_pow_sub_one_eq_mod] at this
    exact this
  rw [BitVec.toInt_eq_toNat_cond]
  split <;> omega

/-- Where the mask is set, the row's number of valid codes is a multiple of 128. -/
theorem whole_of_mask {F : FTy → Type} [FloatOps F] (a0 : FVec F Cert.On_whole_chunks.S6x12288x16 .f32) (a1 : FVec F Cert.On_whole_chunks.S6x12288 .f32)
    (a2 : FVec F Cert.On_whole_chunks.S8192x16 .f32) (a3 : FVec F Cert.On_whole_chunks.S8192 .f32) (a4 : IVec Cert.On_whole_chunks.S6 32)
    (i : Cert.On_whole_chunks.S6x12288.Idx) (h : (Cert.On_whole_chunks.fn (F := F) a0 a1 a2 a3 a4).1 i = 1#1) :
    (128 : Int) ∣ (a4 (ix1 (n0 := 6) (i 0))).toInt := by
  have e : (Cert.On_whole_chunks.fn (F := F) a0 a1 a2 a3 a4).1 i = IntOp.cmpi .eq (a4 (ix1 (n0 := 6) (i 0)) &&& 127#32) 0#32 := by
    pointwise [Cert.On_whole_chunks.fn]
    rfl
  rw [e] at h
  refine dvd_of_and _ ?_
  by_contra hc
  have : IntOp.cmpi .eq (a4 (ix1 (n0 := 6) (i 0)) &&& 127#32) 0#32 = 0#1 := by
    show BitVec.ofBool (decide (_ = _)) = _
    rw [decide_eq_false hc]; rfl
  rw [this] at h
  exact absurd h (by decide)

/-- The second mask is the first. -/
theorem whole_of_mask' {F : FTy → Type} [FloatOps F] (a0 : FVec F Cert.On_whole_chunks.S6x12288x16 .f32) (a1 : FVec F Cert.On_whole_chunks.S6x12288 .f32)
    (a2 : FVec F Cert.On_whole_chunks.S8192x16 .f32) (a3 : FVec F Cert.On_whole_chunks.S8192 .f32) (a4 : IVec Cert.On_whole_chunks.S6 32)
    (i : Cert.On_whole_chunks.S6x12288.Idx) (h : (Cert.On_whole_chunks.fn (F := F) a0 a1 a2 a3 a4).2 i = 1#1) :
    (128 : Int) ∣ (a4 (ix1 (n0 := 6) (i 0))).toInt :=
  whole_of_mask a0 a1 a2 a3 a4 i h

/-- What makes the results of a row equal: its number of valid codes fills whole chunks, or the arguments are finite. -/
def Good (a0 : FVec Ideal KernelIdeal.S6x12288x16 .f32) (a1 : FVec Ideal KernelIdeal.S6x12288 .f32) (a2 : FVec Ideal KernelIdeal.S8192x16 .f32) (a3 : FVec Ideal KernelIdeal.S8192 .f32) (n : Int) : Prop :=
  (128 : Int) ∣ n ∨ (∀ y, Finite.Real' (a0 y)) ∧ (∀ y, Finite.Real' (a1 y)) ∧ (∀ y, Finite.Real' (a2 y)) ∧ ∀ y, Finite.Real' (a3 y)

/-- The two results, by index, of memories with equal arguments. -/
theorem values (m : (ℓ : Loc KernelIdeal.nD KernelIdeal.τ KernelIdeal.sig) → Buf (Elt Ideal) ℓ) (hO : KernelIdeal.Gen.Ok m)
    (hle : ∀ y, (m (((0 : Dev KernelIdeal.nD) : Thread KernelIdeal.nD KernelIdeal.τ).loc KernelIdeal.main_arg4) y).toInt ≤ 8192)
    (a0 : FVec Ideal KernelIdeal.S6x12288x16 .f32) (a1 : FVec Ideal KernelIdeal.S6x12288 .f32) (a2 : FVec Ideal KernelIdeal.S8192x16 .f32) (a3 : FVec Ideal KernelIdeal.S8192 .f32) (a4 : IVec KernelIdeal.S6 32)
    (h0 : a0 = fun (y : KernelIdeal.S6x12288x16.Idx) => (m (((0 : Dev KernelIdeal.nD) : Thread KernelIdeal.nD KernelIdeal.τ).loc KernelIdeal.main_arg0) y : EReal))
    (h1 : a1 = m (((0 : Dev KernelIdeal.nD) : Thread KernelIdeal.nD KernelIdeal.τ).loc KernelIdeal.main_arg1))
    (h2 : a2 = fun (y : KernelIdeal.S8192x16.Idx) => (m (((0 : Dev KernelIdeal.nD) : Thread KernelIdeal.nD KernelIdeal.τ).loc KernelIdeal.main_arg2) y : EReal))
    (h3 : a3 = m (((0 : Dev KernelIdeal.nD) : Thread KernelIdeal.nD KernelIdeal.τ).loc KernelIdeal.main_arg3))
    (h4 : a4 = m (((0 : Dev KernelIdeal.nD) : Thread KernelIdeal.nD KernelIdeal.τ).loc KernelIdeal.main_arg4))
    (b : Fin 6) (j : Fin 12288) (hd : Good a0 a1 a2 a3 (a4 (ix1 (n0 := 6) b)).toInt) :
    Points.least m hO (Arrays.point b (KernelRun.tile j)) (KernelRun.lane j) = Top2.least (Finset.range 8192) (RefDist.dist a1 a3 a4 a0 a2 b j)
      ∧ Points.second m hO (Arrays.point b (KernelRun.tile j)) (KernelRun.lane j) = Top2.second (Finset.range 8192) (RefDist.dist a1 a3 a4 a0 a2 b j) := by
  obtain ⟨hb, hk⟩ := Arrays.point_coords b (KernelRun.tile j)
  have hw : Table.word m (KernelIdeal.grid0.coords (Arrays.point b (KernelRun.tile j))) = a4 (ix1 (n0 := 6) b) := by
    rw [Table.word_eq, h4]
    exact congrArg (fun x : Fin 6 => m (((0 : Dev KernelIdeal.nD) : Thread KernelIdeal.nD KernelIdeal.τ).loc KernelIdeal.main_arg4) (ix1 (n0 := 6) x)) hb
  have hj : j.val = 512 * (KernelIdeal.grid0.coords (Arrays.point b (KernelRun.tile j)) 1).val + (KernelRun.lane j).val := by
    have : (KernelIdeal.grid0.coords (Arrays.point b (KernelRun.tile j)) 1).val = j.val / 512 := congrArg Fin.val hk
    have e : (KernelRun.lane j).val = j.val % 512 := rfl
    omega
  have g0 : ∀ x : Fin 16, (KernelIdeal.Gen.iblk m hO 0 0 (Arrays.point b (KernelRun.tile j)) (ix3 (n0 := 1) (n1 := 16) (n2 := 512) 0 x (KernelRun.lane j)) : EReal)
      = a0 (ix3 (n0 := 6) (n1 := 12288) (n2 := 16) b j x) := fun x => by
    rw [h0]
    exact Blocks.codes m hO 0 _ x _ b j (congrArg Fin.val hb) hj
  have g1 : KernelIdeal.Gen.iblk m hO 0 1 (Arrays.point b (KernelRun.tile j)) (ix4 (n0 := 1) (n1 := 1) (n2 := 1) (n3 := 512) 0 0 0 (KernelRun.lane j))
      = a1 (ix2 (n0 := 6) (n1 := 12288) b j) := by
    rw [h1]
    exact Blocks.scales m hO 0 _ _ b j (congrArg Fin.val hb) hj
  have g2 : ∀ (k : Fin 8192) (x : Fin 16), (Points.book m (ix2 (n0 := 8192) (n1 := 16) k x) : EReal) = a2 (ix2 (n0 := 8192) (n1 := 16) k x) := fun k x => by rw [h2]
  have g3 : ∀ k : Fin 8192, Points.col m (ix2 (n0 := 8192) (n1 := 1) k 0) = a3 (ix1 (n0 := 8192) k) := fun k => by rw [h3]; rfl
  refine Equation.block_eq _ _ _ _ _ _ a0 a1 a2 a3 a4 b j g0 g1 g2 g3 hw ?_ fun k hk hn => ?_
  · rw [hw, h4]; exact hle _
  · rcases hd with hd | ⟨d0, d1, d2, d3⟩
    · rw [← hw] at hd
      unfold Words.chunks at hk
      omega
    · exact Equation.dist_top _ _ _ _ _ _ (fun x => g0 x ▸ d0 _) (g1 ▸ d1 _) (fun k x => g2 k x ▸ d2 _) (fun k => g3 k ▸ d3 _) k hn

/-- The claim where the arguments are finite: equal results everywhere. -/
theorem claim_finite : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  obtain ⟨p4, p0, p1, p2, p3⟩ := hpre 0
  have hle : ∀ y, (m (((0 : Dev KernelIdeal.nD) : Thread KernelIdeal.nD KernelIdeal.τ).loc KernelIdeal.main_arg4) y).toInt ≤ 8192 :=
    fun y => Finite.entry4 _ _ _ _ _ p4 y
  have hO := Table.ok m
  have hH := Table.hyps m hle
  obtain ⟨e0, e1, e2, e3, e4⟩ := hargs 0
  have hval := fun (i : KernelIdeal.S6x12288.Idx) => values m hO hle (RefRegion.tokens m' 0) _ (RefRegion.book m' 0) _ _ (funext fun y => congrFun e0 y) e1 (funext fun y => congrFun e2 y) e3 e4 (i 0) (i 1)
    (Or.inr ⟨fun y => (congrArg Finite.Real' (congrFun e0 y)).mpr (Finite.entry0 _ _ _ _ _ p0 y), fun y => (congrArg Finite.Real' (congrFun e1 y)).mpr (Finite.entry1 _ _ _ _ _ p1 y),
      fun y => (congrArg Finite.Real' (congrFun e2 y)).mpr (Finite.entry2 _ _ _ _ _ p2 y), fun y => (congrArg Finite.Real' (congrFun e3 y)).mpr (Finite.entry3 _ _ _ _ _ p3 y)⟩)
  have hix : ∀ i : KernelIdeal.S6x12288.Idx, i = ix2 (n0 := 6) (n1 := 12288) (i 0) (i 1) := fun i => funext fun a => by match a with | 0 => rfl | 1 => rfl
  refine ⟨fun c (i : KernelIdeal.S6x12288.Idx) => Top2.least (Finset.range 8192) (RefRegion.dist m' 0 (i 0) (i 1)),
    fun c (i : KernelIdeal.S6x12288.Idx) => (Top2.second (Finset.range 8192) (RefRegion.dist m' 0 (i 0) (i 1)) - Top2.least (Finset.range 8192) (RefRegion.dist m' 0 (i 0) (i 1)) : EReal), ?_, ?_⟩
  · refine (θ_run _ _ _).mono (fun r h c => ?_) (θ_run_and (KernelRun.run m g hO hH hle) (KernelIdeal.Gen.unchanged m g hO hH))
    obtain ⟨hv, hu⟩ := h
    obtain rfl : c = 0 := Subsingleton.elim _ _
    refine ⟨funext fun (i : KernelIdeal.S6x12288.Idx) => ?_, funext fun (i : KernelIdeal.S6x12288.Idx) => ?_, hu 0⟩
    · exact (congrArg (r.2.mem (((0 : Dev KernelIdeal.nD) : Thread KernelIdeal.nD KernelIdeal.τ).loc KernelIdeal.main_v6)) (hix i)).trans ((hv (i 0) (i 1)).1.trans (hval i).1)
    · refine (congrArg (r.2.mem (((0 : Dev KernelIdeal.nD) : Thread KernelIdeal.nD KernelIdeal.τ).loc KernelIdeal.main_v7)) (hix i)).trans ((hv (i 0) (i 1)).2.trans ?_)
      exact congrArg₂ (fun a b : EReal => a - b) (hval i).2 (hval i).1
  · refine (θ_run _ _ _).mono (fun r h c => ?_) (RefRegion.run m' g')
    obtain ⟨hv, hu⟩ := h c
    obtain rfl : c = 0 := Subsingleton.elim _ _
    refine ⟨funext fun (i : KernelIdeal.S6x12288.Idx) => ?_, funext fun (i : KernelIdeal.S6x12288.Idx) => ?_, hu⟩
    · exact (congrArg (r.2.mem (((0 : Dev ReferenceIdeal.nD) : Thread ReferenceIdeal.nD ReferenceIdeal.τ).loc ReferenceIdeal.main_v36)) (hix i)).trans (hv (i 0) (i 1)).1
    · exact (congrArg (r.2.mem (((0 : Dev ReferenceIdeal.nD) : Thread ReferenceIdeal.nD ReferenceIdeal.τ).loc ReferenceIdeal.main_v40)) (hix i)).trans (hv (i 0) (i 1)).2

/-- The claim: equal results wherever the mask is set. -/
theorem claim : Cert.algebraic_KernelIdeal_ReferenceIdeal_on_whole_chunks (hKernelIdeal := Cert.KernelIdeal.Gen.facts) (hReferenceIdeal := Cert.ReferenceIdeal.Gen.facts)
    (hPre_in_range := Cert.Pre_in_range.Gen.facts) (hOn_whole_chunks := Cert.On_whole_chunks.Gen.facts) := by
  intro m g m' g' hpre hargs
  have hle : ∀ y, (m (((0 : Dev KernelIdeal.nD) : Thread KernelIdeal.nD KernelIdeal.τ).loc KernelIdeal.main_arg4) y).toInt ≤ 8192 :=
    fun y => Table.le_of_pre (F := Ideal) _ _ _ _ _ (hpre 0) y
  have hO := Table.ok m
  have hH := Table.hyps m hle
  obtain ⟨e0, e1, e2, e3, e4⟩ := hargs 0
  refine ⟨fun c (i : KernelIdeal.S6x12288.Idx) => Top2.least (Finset.range 8192) (RefRegion.dist m' 0 (i 0) (i 1)),
    fun c (i : KernelIdeal.S6x12288.Idx) => (Top2.second (Finset.range 8192) (RefRegion.dist m' 0 (i 0) (i 1)) - Top2.least (Finset.range 8192) (RefRegion.dist m' 0 (i 0) (i 1)) : EReal), ?_, ?_⟩
  · refine (θ_run _ _ _).mono (fun r h c => ?_) (θ_run_and (KernelRun.run m g hO hH hle) (KernelIdeal.Gen.unchanged m g hO hH))
    obtain ⟨hv, hu⟩ := h
    obtain rfl : c = 0 := Subsingleton.elim _ _
    refine ⟨fun (i : KernelIdeal.S6x12288.Idx) hi => ?_, fun (i : KernelIdeal.S6x12288.Idx) hi => ?_, hu 0⟩
    · have hd := whole_of_mask (F := Ideal) _ _ _ _ _ i hi
      have hval := values m hO hle (RefRegion.tokens m' 0) _ (RefRegion.book m' 0) _ _ (funext fun y => congrFun e0 y) e1 (funext fun y => congrFun e2 y) e3 e4 (i 0) (i 1) (Or.inl (by rw [e4]; exact hd))
      have hi2 : i = ix2 (n0 := 6) (n1 := 12288) (i 0) (i 1) := funext fun a => by match a with | 0 => rfl | 1 => rfl
      exact (congrArg (r.2.mem (((0 : Dev KernelIdeal.nD) : Thread KernelIdeal.nD KernelIdeal.τ).loc KernelIdeal.main_v6)) hi2).trans ((hv (i 0) (i 1)).1.trans hval.1)
    · have hd := whole_of_mask' (F := Ideal) _ _ _ _ _ i hi
      have hval := values m hO hle (RefRegion.tokens m' 0) _ (RefRegion.book m' 0) _ _ (funext fun y => congrFun e0 y) e1 (funext fun y => congrFun e2 y) e3 e4 (i 0) (i 1) (Or.inl (by rw [e4]; exact hd))
      have hi2 : i = ix2 (n0 := 6) (n1 := 12288) (i 0) (i 1) := funext fun a => by match a with | 0 => rfl | 1 => rfl
      refine (congrArg (r.2.mem (((0 : Dev KernelIdeal.nD) : Thread KernelIdeal.nD KernelIdeal.τ).loc KernelIdeal.main_v7)) hi2).trans ((hv (i 0) (i 1)).2.trans ?_)
      exact congrArg₂ (fun a b : EReal => a - b) hval.2 hval.1
  · refine (θ_run _ _ _).mono (fun r h c => ?_) (RefRegion.run m' g')
    obtain ⟨hv, hu⟩ := h c
    obtain rfl : c = 0 := Subsingleton.elim _ _
    refine ⟨fun (i : KernelIdeal.S6x12288.Idx) _ => ?_, fun (i : KernelIdeal.S6x12288.Idx) _ => ?_, hu⟩
    · have hi2 : i = ix2 (n0 := 6) (n1 := 12288) (i 0) (i 1) := funext fun a => by match a with | 0 => rfl | 1 => rfl
      exact (congrArg (r.2.mem (((0 : Dev ReferenceIdeal.nD) : Thread ReferenceIdeal.nD ReferenceIdeal.τ).loc ReferenceIdeal.main_v36)) hi2).trans (hv (i 0) (i 1)).1
    · have hi2 : i = ix2 (n0 := 6) (n1 := 12288) (i 0) (i 1) := funext fun a => by match a with | 0 => rfl | 1 => rfl
      exact (congrArg (r.2.mem (((0 : Dev ReferenceIdeal.nD) : Thread ReferenceIdeal.nD ReferenceIdeal.τ).loc ReferenceIdeal.main_v40)) hi2).trans (hv (i 0) (i 1)).2

end

end Cert.Proof.Algebraic
-- ==== Proof.lean ====
/- The certificate's claims put together from the modules under proof/Proof. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefRead
public import proofs.«01_k».proof.Proof.Algebraic
public import proofs.«01_k».proof.Proof.Table
public import proofs.«01_k».proof.Proof.Gen.Pre_in_range
public import proofs.«01_k».proof.Proof.Gen.Pre_finite
public import proofs.«01_k».proof.Proof.Finite
public import proofs.«01_k».proof.Proof.Gen.On_whole_chunks
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_in_range.Gen.facts, Cert.Pre_finite.Gen.facts,
  Cert.On_whole_chunks.Gen.facts,
  fun m ρ h => Cert.Kernel.Gen.frame m ρ (Table.ok_bits m) (Table.hyps_bits m fun y => Table.le_of_pre _ _ _ _ _ (h 0) y),
  fun m ρ h => Cert.KernelIdeal.Gen.frame m ρ (Table.ok m) (Table.hyps m fun y => Table.le_of_pre _ _ _ _ _ (h 0) y),
  fun m ρ h => Cert.KernelIdeal.Gen.frame m ρ (Table.ok m) (Table.hyps m fun y => Finite.entry4 _ _ _ _ _ (h 0).1 y),
  fun m ρ _ => Cert.ReferenceIdeal.Gen.frame m ρ,
  fun m ρ _ => Cert.ReferenceIdeal.Gen.frame m ρ,
  fun m ρ _ => Cert.ReferenceIdeal.Gen.frame m ρ,
  trivial, Algebraic.claim_finite, Algebraic.claim⟩

end Cert.Proof

end
